-- ==== Defs.lean ====
def Pre_Kernel [hPre_experts : Cert.Pre_experts.Facts] (m : (ℓ : Loc Cert.Kernel.nD Cert.Kernel.τ Cert.Kernel.sig) → Buf (Elt Bits) ℓ) : Prop :=
  ∀ c : Dev Cert.Kernel.nD,
    (Cert.Pre_experts.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_experts : Cert.Pre_experts.Facts] (m : (ℓ : Loc Cert.KernelIdeal.nD Cert.KernelIdeal.τ Cert.KernelIdeal.sig) → Buf (Elt Ideal) ℓ) : Prop :=
  ∀ c : Dev Cert.KernelIdeal.nD,
    (Cert.Pre_experts.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_experts [hPre_experts : Cert.Pre_experts.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_experts.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Router (m : (ℓ : Loc Cert.Router.nD Cert.Router.τ Cert.Router.sig) → Buf (Elt Bits) ℓ) : Prop :=
  True

def Pre_RouterIdeal (m : (ℓ : Loc Cert.RouterIdeal.nD Cert.RouterIdeal.τ Cert.RouterIdeal.sig) → Buf (Elt Ideal) ℓ) : Prop :=
  True

def Pre_RouterIdeal_finite [hPre_finite : Cert.Pre_finite.Facts] (m : (ℓ : Loc Cert.RouterIdeal.nD Cert.RouterIdeal.τ Cert.RouterIdeal.sig) → Buf (Elt Ideal) ℓ) : Prop :=
  ∀ c : Dev Cert.RouterIdeal.nD,
    (Cert.Pre_finite.fn (F := Ideal) (m ((c.tc : Thread Cert.RouterIdeal.nD Cert.RouterIdeal.τ).loc Cert.RouterIdeal.main_arg0)) (m ((c.tc : Thread Cert.RouterIdeal.nD Cert.RouterIdeal.τ).loc Cert.RouterIdeal.main_arg1))) = (fun _ => 1#1)

def Pre_RouterReferenceIdeal (m : (ℓ : Loc Cert.RouterReferenceIdeal.nD Cert.RouterReferenceIdeal.τ Cert.RouterReferenceIdeal.sig) → Buf (Elt Ideal) ℓ) : Prop :=
  True

def Pre_RouterReferenceIdeal_finite [hPre_finite : Cert.Pre_finite.Facts] (m : (ℓ : Loc Cert.RouterReferenceIdeal.nD Cert.RouterReferenceIdeal.τ Cert.RouterReferenceIdeal.sig) → Buf (Elt Ideal) ℓ) : Prop :=
  ∀ c : Dev Cert.RouterReferenceIdeal.nD,
    (Cert.Pre_finite.fn (F := Ideal) (m ((c.tc : Thread Cert.RouterReferenceIdeal.nD Cert.RouterReferenceIdeal.τ).loc Cert.RouterReferenceIdeal.main_arg0)) (m ((c.tc : Thread Cert.RouterReferenceIdeal.nD Cert.RouterReferenceIdeal.τ).loc Cert.RouterReferenceIdeal.main_arg1))) = (fun _ => 1#1)

def quiescent_Kernel [hKernel : Cert.Kernel.Facts] [hPre_experts : Cert.Pre_experts.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] [hPre_experts : Cert.Pre_experts.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_experts [hReferenceIdeal : Cert.ReferenceIdeal.Facts] [hPre_experts : Cert.Pre_experts.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_experts m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Router [hRouter : Cert.Router.Facts] : Prop :=
  ∀ (m : (ℓ : Loc Cert.Router.nD Cert.Router.τ Cert.Router.sig) → Buf (Elt Bits) ℓ) (g : Dev Cert.Router.nD → PrngReg), Pre_Router m →
    θ_run (Cert.Router.defs (F := Bits)) (onTc (τ := Cert.Router.τ) (Cert.Router.main (F := Bits))) ⟨m, fun _ => 0, g⟩ (fun r => (∀ c : Dev Cert.Router.nD,
      r.2.mem ((c.tc : Thread Cert.Router.nD Cert.Router.τ).loc Cert.Router.main_arg0) = m ((c.tc : Thread Cert.Router.nD Cert.Router.τ).loc Cert.Router.main_arg0)
      ∧ r.2.mem ((c.tc : Thread Cert.Router.nD Cert.Router.τ).loc Cert.Router.main_arg1) = m ((c.tc : Thread Cert.Router.nD Cert.Router.τ).loc Cert.Router.main_arg1))
      ∧ r.2.sem = fun _ => 0)

def quiescent_RouterIdeal [hRouterIdeal : Cert.RouterIdeal.Facts] : Prop :=
  ∀ (m : (ℓ : Loc Cert.RouterIdeal.nD Cert.RouterIdeal.τ Cert.RouterIdeal.sig) → Buf (Elt Ideal) ℓ) (g : Dev Cert.RouterIdeal.nD → PrngReg), Pre_RouterIdeal m →
    θ_run (Cert.RouterIdeal.defs (F := Ideal)) (onTc (τ := Cert.RouterIdeal.τ) (Cert.RouterIdeal.main (F := Ideal))) ⟨m, fun _ => 0, g⟩ (fun r => (∀ c : Dev Cert.RouterIdeal.nD,
      r.2.mem ((c.tc : Thread Cert.RouterIdeal.nD Cert.RouterIdeal.τ).loc Cert.RouterIdeal.main_arg0) = m ((c.tc : Thread Cert.RouterIdeal.nD Cert.RouterIdeal.τ).loc Cert.RouterIdeal.main_arg0)
      ∧ r.2.mem ((c.tc : Thread Cert.RouterIdeal.nD Cert.RouterIdeal.τ).loc Cert.RouterIdeal.main_arg1) = m ((c.tc : Thread Cert.RouterIdeal.nD Cert.RouterIdeal.τ).loc Cert.RouterIdeal.main_arg1))
      ∧ r.2.sem = fun _ => 0)

def quiescent_RouterIdeal_pre_finite [hRouterIdeal : Cert.RouterIdeal.Facts] [hPre_finite : Cert.Pre_finite.Facts] : Prop :=
  ∀ (m : (ℓ : Loc Cert.RouterIdeal.nD Cert.RouterIdeal.τ Cert.RouterIdeal.sig) → Buf (Elt Ideal) ℓ) (g : Dev Cert.RouterIdeal.nD → PrngReg), Pre_RouterIdeal_finite m →
    θ_run (Cert.RouterIdeal.defs (F := Ideal)) (onTc (τ := Cert.RouterIdeal.τ) (Cert.RouterIdeal.main (F := Ideal))) ⟨m, fun _ => 0, g⟩ (fun r => (∀ c : Dev Cert.RouterIdeal.nD,
      r.2.mem ((c.tc : Thread Cert.RouterIdeal.nD Cert.RouterIdeal.τ).loc Cert.RouterIdeal.main_arg0) = m ((c.tc : Thread Cert.RouterIdeal.nD Cert.RouterIdeal.τ).loc Cert.RouterIdeal.main_arg0)
      ∧ r.2.mem ((c.tc : Thread Cert.RouterIdeal.nD Cert.RouterIdeal.τ).loc Cert.RouterIdeal.main_arg1) = m ((c.tc : Thread Cert.RouterIdeal.nD Cert.RouterIdeal.τ).loc Cert.RouterIdeal.main_arg1))
      ∧ r.2.sem = fun _ => 0)

def quiescent_RouterReferenceIdeal [hRouterReferenceIdeal : Cert.RouterReferenceIdeal.Facts] : Prop :=
  ∀ (m : (ℓ : Loc Cert.RouterReferenceIdeal.nD Cert.RouterReferenceIdeal.τ Cert.RouterReferenceIdeal.sig) → Buf (Elt Ideal) ℓ) (g : Dev Cert.RouterReferenceIdeal.nD → PrngReg), Pre_RouterReferenceIdeal m →
    θ_run (Cert.RouterReferenceIdeal.defs (F := Ideal)) (onTc (τ := Cert.RouterReferenceIdeal.τ) (Cert.RouterReferenceIdeal.main (F := Ideal))) ⟨m, fun _ => 0, g⟩ (fun r => (∀ c : Dev Cert.RouterReferenceIdeal.nD,
      r.2.mem ((c.tc : Thread Cert.RouterReferenceIdeal.nD Cert.RouterReferenceIdeal.τ).loc Cert.RouterReferenceIdeal.main_arg0) = m ((c.tc : Thread Cert.RouterReferenceIdeal.nD Cert.RouterReferenceIdeal.τ).loc Cert.RouterReferenceIdeal.main_arg0)
      ∧ r.2.mem ((c.tc : Thread Cert.RouterReferenceIdeal.nD Cert.RouterReferenceIdeal.τ).loc Cert.RouterReferenceIdeal.main_arg1) = m ((c.tc : Thread Cert.RouterReferenceIdeal.nD Cert.RouterReferenceIdeal.τ).loc Cert.RouterReferenceIdeal.main_arg1))
      ∧ r.2.sem = fun _ => 0)

def quiescent_RouterReferenceIdeal_pre_finite [hRouterReferenceIdeal : Cert.RouterReferenceIdeal.Facts] [hPre_finite : Cert.Pre_finite.Facts] : Prop :=
  ∀ (m : (ℓ : Loc Cert.RouterReferenceIdeal.nD Cert.RouterReferenceIdeal.τ Cert.RouterReferenceIdeal.sig) → Buf (Elt Ideal) ℓ) (g : Dev Cert.RouterReferenceIdeal.nD → PrngReg), Pre_RouterReferenceIdeal_finite m →
    θ_run (Cert.RouterReferenceIdeal.defs (F := Ideal)) (onTc (τ := Cert.RouterReferenceIdeal.τ) (Cert.RouterReferenceIdeal.main (F := Ideal))) ⟨m, fun _ => 0, g⟩ (fun r => (∀ c : Dev Cert.RouterReferenceIdeal.nD,
      r.2.mem ((c.tc : Thread Cert.RouterReferenceIdeal.nD Cert.RouterReferenceIdeal.τ).loc Cert.RouterReferenceIdeal.main_arg0) = m ((c.tc : Thread Cert.RouterReferenceIdeal.nD Cert.RouterReferenceIdeal.τ).loc Cert.RouterReferenceIdeal.main_arg0)
      ∧ r.2.mem ((c.tc : Thread Cert.RouterReferenceIdeal.nD Cert.RouterReferenceIdeal.τ).loc Cert.RouterReferenceIdeal.main_arg1) = m ((c.tc : Thread Cert.RouterReferenceIdeal.nD Cert.RouterReferenceIdeal.τ).loc Cert.RouterReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_experts : Cert.Pre_experts.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v8)) (v1 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_v11) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_v24) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Router_RouterIdeal : Prop :=
  True

def algebraic_RouterIdeal_RouterReferenceIdeal_pre_finite [hRouterIdeal : Cert.RouterIdeal.Facts] [hRouterReferenceIdeal : Cert.RouterReferenceIdeal.Facts] [hPre_finite : Cert.Pre_finite.Facts] : Prop :=
  ∀ (m : (ℓ : Loc Cert.RouterIdeal.nD Cert.RouterIdeal.τ Cert.RouterIdeal.sig) → Buf (Elt Ideal) ℓ) (g : Dev Cert.RouterIdeal.nD → PrngReg)
    (m' : (ℓ : Loc Cert.RouterReferenceIdeal.nD Cert.RouterReferenceIdeal.τ Cert.RouterReferenceIdeal.sig) → Buf (Elt Ideal) ℓ) (g' : Dev Cert.RouterReferenceIdeal.nD → PrngReg), Pre_RouterIdeal_finite m →
    (∀ c : Dev Cert.RouterIdeal.nD,
      m' ((c.tc : Thread Cert.RouterReferenceIdeal.nD Cert.RouterReferenceIdeal.τ).loc Cert.RouterReferenceIdeal.main_arg0) = m ((c.tc : Thread Cert.RouterIdeal.nD Cert.RouterIdeal.τ).loc Cert.RouterIdeal.main_arg0)
      ∧ m' ((c.tc : Thread Cert.RouterReferenceIdeal.nD Cert.RouterReferenceIdeal.τ).loc Cert.RouterReferenceIdeal.main_arg1) = m ((c.tc : Thread Cert.RouterIdeal.nD Cert.RouterIdeal.τ).loc Cert.RouterIdeal.main_arg1)) →
    ∃ (v0 : (c : Dev Cert.RouterIdeal.nD) → Buf (Elt Ideal) ((c.tc : Thread Cert.RouterIdeal.nD Cert.RouterIdeal.τ).loc Cert.RouterIdeal.main_v1_0)) (v1 : (c : Dev Cert.RouterIdeal.nD) → Buf (Elt Ideal) ((c.tc : Thread Cert.RouterIdeal.nD Cert.RouterIdeal.τ).loc Cert.RouterIdeal.main_v1_1)) (v2 : (c : Dev Cert.RouterIdeal.nD) → Buf (Elt Ideal) ((c.tc : Thread Cert.RouterIdeal.nD Cert.RouterIdeal.τ).loc Cert.RouterIdeal.main_v1_2)) (v3 : (c : Dev Cert.RouterIdeal.nD) → Buf (Elt Ideal) ((c.tc : Thread Cert.RouterIdeal.nD Cert.RouterIdeal.τ).loc Cert.RouterIdeal.main_v1_3)) (v4 : (c : Dev Cert.RouterIdeal.nD) → Buf (Elt Ideal) ((c.tc : Thread Cert.RouterIdeal.nD Cert.RouterIdeal.τ).loc Cert.RouterIdeal.main_v1_4)) (v5 : (c : Dev Cert.RouterIdeal.nD) → Buf (Elt Ideal) ((c.tc : Thread Cert.RouterIdeal.nD Cert.RouterIdeal.τ).loc Cert.RouterIdeal.main_v1_5)) (v6 : (c : Dev Cert.RouterIdeal.nD) → Buf (Elt Ideal) ((c.tc : Thread Cert.RouterIdeal.nD Cert.RouterIdeal.τ).loc Cert.RouterIdeal.main_v1_6)) (v7 : (c : Dev Cert.RouterIdeal.nD) → Buf (Elt Ideal) ((c.tc : Thread Cert.RouterIdeal.nD Cert.RouterIdeal.τ).loc Cert.RouterIdeal.main_v1_7)),
      θ_run (Cert.RouterIdeal.defs (F := Ideal)) (onTc (τ := Cert.RouterIdeal.τ) (Cert.RouterIdeal.main (F := Ideal))) ⟨m, fun _ => 0, g⟩ (fun r => ∀ c : Dev Cert.RouterIdeal.nD,
          r.2.mem ((c.tc : Thread Cert.RouterIdeal.nD Cert.RouterIdeal.τ).loc Cert.RouterIdeal.main_v1_0) = v0 c
          ∧ r.2.mem ((c.tc : Thread Cert.RouterIdeal.nD Cert.RouterIdeal.τ).loc Cert.RouterIdeal.main_v1_1) = v1 c
          ∧ r.2.mem ((c.tc : Thread Cert.RouterIdeal.nD Cert.RouterIdeal.τ).loc Cert.RouterIdeal.main_v1_2) = v2 c
          ∧ r.2.mem ((c.tc : Thread Cert.RouterIdeal.nD Cert.RouterIdeal.τ).loc Cert.RouterIdeal.main_v1_3) = v3 c
          ∧ r.2.mem ((c.tc : Thread Cert.RouterIdeal.nD Cert.RouterIdeal.τ).loc Cert.RouterIdeal.main_v1_4) = v4 c
          ∧ r.2.mem ((c.tc : Thread Cert.RouterIdeal.nD Cert.RouterIdeal.τ).loc Cert.RouterIdeal.main_v1_5) = v5 c
          ∧ r.2.mem ((c.tc : Thread Cert.RouterIdeal.nD Cert.RouterIdeal.τ).loc Cert.RouterIdeal.main_v1_6) = v6 c
          ∧ r.2.mem ((c.tc : Thread Cert.RouterIdeal.nD Cert.RouterIdeal.τ).loc Cert.RouterIdeal.main_v1_7) = v7 c
          ∧ r.2.mem ((c.tc : Thread Cert.RouterIdeal.nD Cert.RouterIdeal.τ).loc Cert.RouterIdeal.main_arg0) = m ((c.tc : Thread Cert.RouterIdeal.nD Cert.RouterIdeal.τ).loc Cert.RouterIdeal.main_arg0)
          ∧ r.2.mem ((c.tc : Thread Cert.RouterIdeal.nD Cert.RouterIdeal.τ).loc Cert.RouterIdeal.main_arg1) = m ((c.tc : Thread Cert.RouterIdeal.nD Cert.RouterIdeal.τ).loc Cert.RouterIdeal.main_arg1))
      ∧ θ_run (Cert.RouterReferenceIdeal.defs (F := Ideal)) (onTc (τ := Cert.RouterReferenceIdeal.τ) (Cert.RouterReferenceIdeal.main (F := Ideal))) ⟨m', fun _ => 0, g'⟩ (fun r => ∀ c : Dev Cert.RouterReferenceIdeal.nD,
          r.2.mem ((c.tc : Thread Cert.RouterReferenceIdeal.nD Cert.RouterReferenceIdeal.τ).loc Cert.RouterReferenceIdeal.main_v51) = v0 c
          ∧ r.2.mem ((c.tc : Thread Cert.RouterReferenceIdeal.nD Cert.RouterReferenceIdeal.τ).loc Cert.RouterReferenceIdeal.main_v52) = v1 c
          ∧ r.2.mem ((c.tc : Thread Cert.RouterReferenceIdeal.nD Cert.RouterReferenceIdeal.τ).loc Cert.RouterReferenceIdeal.main_v54) = v2 c
          ∧ r.2.mem ((c.tc : Thread Cert.RouterReferenceIdeal.nD Cert.RouterReferenceIdeal.τ).loc Cert.RouterReferenceIdeal.main_v56) = v3 c
          ∧ r.2.mem ((c.tc : Thread Cert.RouterReferenceIdeal.nD Cert.RouterReferenceIdeal.τ).loc Cert.RouterReferenceIdeal.main_v59) = v4 c
          ∧ r.2.mem ((c.tc : Thread Cert.RouterReferenceIdeal.nD Cert.RouterReferenceIdeal.τ).loc Cert.RouterReferenceIdeal.main_v62) = v5 c
          ∧ r.2.mem ((c.tc : Thread Cert.RouterReferenceIdeal.nD Cert.RouterReferenceIdeal.τ).loc Cert.RouterReferenceIdeal.main_v63) = v6 c
          ∧ r.2.mem ((c.tc : Thread Cert.RouterReferenceIdeal.nD Cert.RouterReferenceIdeal.τ).loc Cert.RouterReferenceIdeal.main_v64) = v7 c
          ∧ r.2.mem ((c.tc : Thread Cert.RouterReferenceIdeal.nD Cert.RouterReferenceIdeal.τ).loc Cert.RouterReferenceIdeal.main_arg0) = m' ((c.tc : Thread Cert.RouterReferenceIdeal.nD Cert.RouterReferenceIdeal.τ).loc Cert.RouterReferenceIdeal.main_arg0)
          ∧ r.2.mem ((c.tc : Thread Cert.RouterReferenceIdeal.nD Cert.RouterReferenceIdeal.τ).loc Cert.RouterReferenceIdeal.main_arg1) = m' ((c.tc : Thread Cert.RouterReferenceIdeal.nD Cert.RouterReferenceIdeal.τ).loc Cert.RouterReferenceIdeal.main_arg1))

def Claim : Prop :=
  ∃ (hKernel : Cert.Kernel.Facts) (hKernelIdeal : Cert.KernelIdeal.Facts) (hReferenceIdeal : Cert.ReferenceIdeal.Facts) (hRouter : Cert.Router.Facts) (hRouterIdeal : Cert.RouterIdeal.Facts) (hRouterReferenceIdeal : Cert.RouterReferenceIdeal.Facts) (hPre_experts : Cert.Pre_experts.Facts) (hPre_finite : Cert.Pre_finite.Facts),
    quiescent_Kernel (hKernel := hKernel) (hPre_experts := hPre_experts)
    ∧ quiescent_KernelIdeal (hKernelIdeal := hKernelIdeal) (hPre_experts := hPre_experts)
    ∧ quiescent_ReferenceIdeal (hReferenceIdeal := hReferenceIdeal)
    ∧ quiescent_ReferenceIdeal_pre_experts (hReferenceIdeal := hReferenceIdeal) (hPre_experts := hPre_experts)
    ∧ quiescent_Router (hRouter := hRouter)
    ∧ quiescent_RouterIdeal (hRouterIdeal := hRouterIdeal)
    ∧ quiescent_RouterIdeal_pre_finite (hRouterIdeal := hRouterIdeal) (hPre_finite := hPre_finite)
    ∧ quiescent_RouterReferenceIdeal (hRouterReferenceIdeal := hRouterReferenceIdeal)
    ∧ quiescent_RouterReferenceIdeal_pre_finite (hRouterReferenceIdeal := hRouterReferenceIdeal) (hPre_finite := hPre_finite)
    ∧ preserves_Kernel_KernelIdeal
    ∧ algebraic_KernelIdeal_ReferenceIdeal (hKernelIdeal := hKernelIdeal) (hReferenceIdeal := hReferenceIdeal) (hPre_experts := hPre_experts)
    ∧ preserves_Router_RouterIdeal
    ∧ algebraic_RouterIdeal_RouterReferenceIdeal_pre_finite (hRouterIdeal := hRouterIdeal) (hRouterReferenceIdeal := hRouterReferenceIdeal) (hPre_finite := hPre_finite)
-- ==== Pre_experts.lean ====
abbrev S4x2048 : Shape := ⟨2, ![4, 2048]⟩
abbrev S_ : Shape := ⟨0, ![]⟩

class Facts : Prop where
  bcast_S_S4x2048 : S_.BroadcastsInDim S4x2048 (![] : Fin 0 → Fin S4x2048.rank)
  reducesTo_S4x2048_S_d0_1 : S4x2048.ReducesTo [0, 1] S_
  h_S_ : 0 < S_.numel

variable [Facts]

def fn {F : FTy → Type} [FloatOps F] (main_arg0 : IVec S4x2048 32) (main_arg1 : IVec S4x2048 32) (main_arg2 : FVec F S4x2048 .f32) (main_arg3 : FVec F S4x2048 .f32) (main_arg4 : IVec S_ 32) : IVec S_ 1 :=
  let main_c : IVec S_ 32 := constantI S_ 32 0#32
  let main_v0 : IVec S4x2048 32 := broadcastInDim S4x2048 ![] bcast_S_S4x2048 main_c
  let main_v1 : IVec S4x2048 1 := cmpi .sge main_arg0 main_v0
  let main_c_0 : IVec S_ 1 := constantI S_ 1 1#1
  let main_v2 : IVec S_ 1 := (fun x v => Host.reduce IntOp.andi x v reducesTo_S4x2048_S_d0_1 h_S_) main_v1 main_c_0
  let main_c_1 : IVec S_ 32 := constantI S_ 32 64#32
  let main_v3 : IVec S4x2048 32 := broadcastInDim S4x2048 ![] bcast_S_S4x2048 main_c_1
  let main_v4 : IVec S4x2048 1 := cmpi .slt main_arg0 main_v3
  let main_c_2 : IVec S_ 1 := constantI S_ 1 1#1
  let main_v5 : IVec S_ 1 := (fun x v => Host.reduce IntOp.andi x v reducesTo_S4x2048_S_d0_1 h_S_) main_v4 main_c_2
  let main_v6 : IVec S_ 1 := andi main_v2 main_v5
  let main_c_3 : IVec S_ 32 := constantI S_ 32 0#32
  let main_v7 : IVec S4x2048 32 := broadcastInDim S4x2048 ![] bcast_S_S4x2048 main_c_3
  let main_v8 : IVec S4x2048 1 := cmpi .sge main_arg1 main_v7
  let main_c_4 : IVec S_ 1 := constantI S_ 1 1#1
  let main_v9 : IVec S_ 1 := (fun x v => Host.reduce IntOp.andi x v reducesTo_S4x2048_S_d0_1 h_S_) main_v8 main_c_4
  let main_v10 : IVec S_ 1 := andi main_v6 main_v9
  let main_c_5 : IVec S_ 32 := constantI S_ 32 64#32
  let main_v11 : IVec S4x2048 32 := broadcastInDim S4x2048 ![] bcast_S_S4x2048 main_c_5
  let main_v12 : IVec S4x2048 1 := cmpi .slt main_arg1 main_v11
  let main_c_6 : IVec S_ 1 := constantI S_ 1 1#1
  let main_v13 : IVec S_ 1 := (fun x v => Host.reduce IntOp.andi x v reducesTo_S4x2048_S_d0_1 h_S_) main_v12 main_c_6
  let main_v14 : IVec S_ 1 := andi main_v10 main_v13
  main_v14
-- ==== Pre_finite.lean ====
abbrev S4x2048x2048 : Shape := ⟨3, ![4, 2048, 2048]⟩
abbrev S2048x64 : Shape := ⟨2, ![2048, 64]⟩
abbrev S_ : Shape := ⟨0, ![]⟩

class Facts : Prop where
  bcast_S_S4x2048x2048 : S_.BroadcastsInDim S4x2048x2048 (![] : Fin 0 → Fin S4x2048x2048.rank)
  reducesTo_S4x2048x2048_S_d0_1_2 : S4x2048x2048.ReducesTo [0, 1, 2] S_
  h_S_ : 0 < S_.numel
  bcast_S_S2048x64 : S_.BroadcastsInDim S2048x64 (![] : Fin 0 → Fin S2048x64.rank)
  reducesTo_S2048x64_S_d0_1 : S2048x64.ReducesTo [0, 1] S_

variable [Facts]

def fn {F : FTy → Type} [FloatOps F] (main_arg0 : FVec F S4x2048x2048 .f32) (main_arg1 : FVec F S2048x64 .f32) : IVec S_ 1 :=
  let main_v0 : FVec F S4x2048x2048 .f32 := Host.absf main_arg0
  let main_cst : FVec F S_ .f32 := constant S_ .f32 0x7F800000#32
  let main_v1 : FVec F S4x2048x2048 .f32 := broadcastInDim S4x2048x2048 ![] bcast_S_S4x2048x2048 main_cst
  let main_v2 : IVec S4x2048x2048 1 := cmpf .olt main_v0 main_v1
  let main_c : IVec S_ 1 := constantI S_ 1 1#1
  let main_v3 : IVec S_ 1 := (fun x v => Host.reduce IntOp.andi x v reducesTo_S4x2048x2048_S_d0_1_2 h_S_) main_v2 main_c
  let main_v4 : FVec F S2048x64 .f32 := Host.absf main_arg1
  let main_cst_0 : FVec F S_ .f32 := constant S_ .f32 0x7F800000#32
  let main_v5 : FVec F S2048x64 .f32 := broadcastInDim S2048x64 ![] bcast_S_S2048x64 main_cst_0
  let main_v6 : IVec S2048x64 1 := cmpf .olt main_v4 main_v5
  let main_c_1 : IVec S_ 1 := constantI S_ 1 1#1
  let main_v7 : IVec S_ 1 := (fun x v => Host.reduce IntOp.andi x v reducesTo_S2048x64_S_d0_1 h_S_) main_v6 main_c_1
  let main_v8 : IVec S_ 1 := andi main_v3 main_v7
  main_v8
-- ==== Kernel.lean ====
abbrev S4x2048 : Shape := ⟨2, ![4, 2048]⟩
abbrev S_ : Shape := ⟨0, ![]⟩
abbrev S16 : Shape := ⟨1, ![16]⟩
abbrev S2048 : Shape := ⟨1, ![2048]⟩
abbrev S64 : Shape := ⟨1, ![64]⟩
abbrev S1x2048 : Shape := ⟨2, ![1, 2048]⟩
abbrev S4x2048x1 : Shape := ⟨3, ![4, 2048, 1]⟩
abbrev S4x2048x4 : Shape := ⟨3, ![4, 2048, 4]⟩
abbrev S4x2048x2 : Shape := ⟨3, ![4, 2048, 2]⟩

abbrev nBuf : Table → Nat
  | .hbm => 20
  | .local .scVector .vmem => 10
  | _ => 0

abbrev bufTy : (tb : Table) → Fin (nBuf tb) → BufTy
  | .hbm, ⟨0, _⟩ => ⟨S4x2048, .i32⟩
  | .hbm, ⟨1, _⟩ => ⟨S4x2048, .i32⟩
  | .hbm, ⟨2, _⟩ => ⟨S4x2048, .f32⟩
  | .hbm, ⟨3, _⟩ => ⟨S4x2048, .f32⟩
  | .hbm, ⟨4, _⟩ => ⟨S_, .i32⟩
  | .hbm, ⟨5, _⟩ => ⟨S16, .i32⟩
  | .hbm, ⟨6, _⟩ => ⟨S4x2048, .f32⟩
  | .hbm, ⟨7, _⟩ => ⟨S4x2048, .f32⟩
  | .hbm, ⟨8, _⟩ => ⟨S4x2048, .f32⟩
  | .hbm, ⟨9, _⟩ => ⟨S4x2048, .f32⟩
  | .hbm, ⟨10, _⟩ => ⟨S4x2048, .f32⟩
  | .hbm, ⟨11, _⟩ => ⟨S4x2048, .f32⟩
  | .hbm, ⟨12, _⟩ => ⟨S4x2048x1, .f32⟩
  | .hbm, ⟨13, _⟩ => ⟨S4x2048x1, .f32⟩
  | .hbm, ⟨14, _⟩ => ⟨S4x2048x1, .f32⟩
  | .hbm, ⟨15, _⟩ => ⟨S4x2048x1, .f32⟩
  | .hbm, ⟨16, _⟩ => ⟨S4x2048x4, .f32⟩
  | .hbm, ⟨17, _⟩ => ⟨S4x2048x1, .f32⟩
  | .hbm, ⟨18, _⟩ => ⟨S4x2048x1, .f32⟩
  | .hbm, ⟨19, _⟩ => ⟨S4x2048x2, .f32⟩
  | .local .scVector .vmem, ⟨0, _⟩ => ⟨S2048, .i32⟩
  | .local .scVector .vmem, ⟨1, _⟩ => ⟨S2048, .i32⟩
  | .local .scVector .vmem, ⟨2, _⟩ => ⟨S2048, .f32⟩
  | .local .scVector .vmem, ⟨3, _⟩ => ⟨S2048, .f32⟩
  | .local .scVector .vmem, ⟨4, _⟩ => ⟨S16, .i32⟩
  | .local .scVector .vmem, ⟨5, _⟩ => ⟨S64, .i32⟩
  | .local .scVector .vmem, ⟨6, _⟩ => ⟨S2048, .f32⟩
  | .local .scVector .vmem, ⟨7, _⟩ => ⟨S2048, .f32⟩
  | .local .scVector .vmem, ⟨8, _⟩ => ⟨S2048, .f32⟩
  | .local .scVector .vmem, ⟨9, _⟩ => ⟨S2048, .f32⟩
  | _, _ => ⟨S4x2048, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 9 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | _ => false

abbrev sig : RefSig :=
  ofTables nBuf rfl bufTy 4 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_arg0_scv : Ref sig .scVector := ⟨.hbm, 0, rfl⟩
abbrev main_arg1_scv : Ref sig .scVector := ⟨.hbm, 1, rfl⟩
abbrev main_arg2_scv : Ref sig .scVector := ⟨.hbm, 2, rfl⟩
abbrev main_arg3_scv : Ref sig .scVector := ⟨.hbm, 3, rfl⟩
abbrev main_v0_scv : Ref sig .scVector := ⟨.hbm, 5, rfl⟩
abbrev main_v1_0_scv : Ref sig .scVector := ⟨.hbm, 6, rfl⟩
abbrev main_v1_1_scv : Ref sig .scVector := ⟨.hbm, 7, rfl⟩
abbrev main_v1_2_scv : Ref sig .scVector := ⟨.hbm, 8, rfl⟩
abbrev main_v1_3_scv : Ref sig .scVector := ⟨.hbm, 9, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev cc0_scratch7 : Ref sig .scVector := ⟨.vmem, 7, rfl⟩
abbrev cc0_scratch8 : Ref sig .scVector := ⟨.vmem, 8, rfl⟩
abbrev cc0_scratch9 : Ref sig .scVector := ⟨.vmem, 9, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_cond1 (i : grid0.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32 : BitVec 32 := 4#32
  let v2 : BitVec 1 := Scalar.cmpi .slt v1 c4_i32
  let v3 : BitVec 32 := Scalar.extui v2
  let c0_i32 : BitVec 32 := 0#32
  let v4 : BitVec 1 := Scalar.cmpi .ne v3 c0_i32
  v4

def k0_off1 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_10_r0 : BitVec 32 := 0#32
  ![v1.toNat, 0]
@[reducible] def k0_t1_loop : Scf.Loop 32 :=
  let c0_i32_3 : BitVec 32 := 0#32
  let c128_i32 : BitVec 32 := 128#32
  let v14 : BitVec 32 := Scalar.addi c0_i32_3 c128_i32
  let c1_i32 : BitVec 32 := 1#32
  ⟨c0_i32_3, v14, c1_i32⟩
def k0_off2 (k0_t1 : Fin k0_t1_loop.trips) : Fin 1 → Nat :=
  let c0_i32_3 : BitVec 32 := 0#32
  let c1_i32 : BitVec 32 := 1#32
  let arg21 : BitVec 32 := Scf.iv c0_i32_3 c1_i32 k0_t1
  let c16_i32 : BitVec 32 := 16#32
  let v16 : BitVec 32 := Scalar.muli arg21 c16_i32
  let v17 : Index := Scalar.indexCast v16
  ![v17.toNat]

def k0_chk1 (i : grid0.Coords) (v18 : IVec S16 32) : Prop :=
  (∀ (k0_h1 : k0_cond1 i = 1#1), ∀ a x, ((![v18] : Fin 1 → IVec S16 32) a x).toNat < S64.size a) ∧
  (∀ (k0_h1 : k0_cond1 i = 1#1), ∀ a x, ((![v18] : Fin 1 → IVec S16 32) a x).toNat < S64.size a)
theorem k0_idx1_inb : ∀ (i : grid0.Coords) (v18 : IVec S16 32) (k0_hw1 : k0_chk1 i v18), ∀ (k0_h1 : k0_cond1 i = 1#1), ∀ a x, ((![v18] : Fin 1 → IVec S16 32) a x).toNat < S64.size a := fun i v18 k0_hw1 k0_h1 => k0_hw1.1 k0_h1
theorem k0_idx2_inb : ∀ (i : grid0.Coords) (v18 : IVec S16 32) (k0_hw1 : k0_chk1 i v18), ∀ (k0_h1 : k0_cond1 i = 1#1), ∀ a x, ((![v18] : Fin 1 → IVec S16 32) a x).toNat < S64.size a := fun i v18 k0_hw1 k0_h1 => k0_hw1.2 k0_h1
def k0_off3 (k0_t1 : Fin k0_t1_loop.trips) : Fin 1 → Nat :=
  let c0_i32_3 : BitVec 32 := 0#32
  let c1_i32 : BitVec 32 := 1#32
  let arg21 : BitVec 32 := Scf.iv c0_i32_3 c1_i32 k0_t1
  let c16_i32_14 : BitVec 32 := 16#32
  let v26 : BitVec 32 := Scalar.muli arg21 c16_i32_14
  let v27 : Index := Scalar.indexCast v26
  ![v27.toNat]
@[reducible] def k0_t2_loop : Scf.Loop 32 :=
  let c0_i32_6 : BitVec 32 := 0#32
  let c128_i32_7 : BitVec 32 := 128#32
  let v15 : BitVec 32 := Scalar.addi c0_i32_6 c128_i32_7
  let c1_i32_8 : BitVec 32 := 1#32
  ⟨c0_i32_6, v15, c1_i32_8⟩
def k0_off4 (k0_t2 : Fin k0_t2_loop.trips) : Fin 1 → Nat :=
  let c0_i32_6 : BitVec 32 := 0#32
  let c1_i32_8 : BitVec 32 := 1#32
  let arg21 : BitVec 32 := Scf.iv c0_i32_6 c1_i32_8 k0_t2
  let c16_i32 : BitVec 32 := 16#32
  let v16 : BitVec 32 := Scalar.muli arg21 c16_i32
  let v17 : Index := Scalar.indexCast v16
  ![v17.toNat]

def k0_chk2 (i : grid0.Coords) (v18 : IVec S16 32) : Prop :=
  (∀ (k0_h1 : k0_cond1 i = 1#1), ∀ a x, ((![v18] : Fin 1 → IVec S16 32) a x).toNat < S64.size a) ∧
  (∀ (k0_h1 : k0_cond1 i = 1#1), ∀ a x, ((![v18] : Fin 1 → IVec S16 32) a x).toNat < S64.size a)
theorem k0_idx3_inb : ∀ (i : grid0.Coords) (v18 : IVec S16 32) (k0_hw2 : k0_chk2 i v18), ∀ (k0_h1 : k0_cond1 i = 1#1), ∀ a x, ((![v18] : Fin 1 → IVec S16 32) a x).toNat < S64.size a := fun i v18 k0_hw2 k0_h1 => k0_hw2.1 k0_h1
theorem k0_idx4_inb : ∀ (i : grid0.Coords) (v18 : IVec S16 32) (k0_hw2 : k0_chk2 i v18), ∀ (k0_h1 : k0_cond1 i = 1#1), ∀ a x, ((![v18] : Fin 1 → IVec S16 32) a x).toNat < S64.size a := fun i v18 k0_hw2 k0_h1 => k0_hw2.2 k0_h1
def k0_off5 (k0_t2 : Fin k0_t2_loop.trips) : Fin 1 → Nat :=
  let c0_i32_6 : BitVec 32 := 0#32
  let c1_i32_8 : BitVec 32 := 1#32
  let arg21 : BitVec 32 := Scf.iv c0_i32_6 c1_i32_8 k0_t2
  let c16_i32_14 : BitVec 32 := 16#32
  let v26 : BitVec 32 := Scalar.muli arg21 c16_i32_14
  let v27 : Index := Scalar.indexCast v26
  ![v27.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S4x2048 : Shape := ⟨2, ![4, 2048]⟩
abbrev S_ : Shape := ⟨0, ![]⟩
abbrev S4x2048x1 : Shape := ⟨3, ![4, 2048, 1]⟩
abbrev S4x2048x2 : Shape := ⟨3, ![4, 2048, 2]⟩
abbrev S4x2x2048 : Shape := ⟨3, ![4, 2, 2048]⟩
abbrev S4x4096 : Shape := ⟨2, ![4, 4096]⟩
abbrev S4x4096x1 : Shape := ⟨3, ![4, 4096, 1]⟩
abbrev S1x1x64 : Shape := ⟨3, ![1, 1, 64]⟩
abbrev S4x4096x64 : Shape := ⟨3, ![4, 4096, 64]⟩
abbrev S4x2x2048x64 : Shape := ⟨4, ![4, 2, 2048, 64]⟩
abbrev S4x2048x2x64 : Shape := ⟨4, ![4, 2048, 2, 64]⟩
abbrev S4x2048x4 : Shape := ⟨3, ![4, 2048, 4]⟩

abbrev nBuf : Space → Nat
  | .hbm => 41
  | .vmem => 0
  | .smem => 0
  | _ => 0

abbrev bufTy : (tb : Table) → Fin (tcTables nBuf tb) → BufTy
  | .hbm, ⟨0, _⟩ => ⟨S4x2048, .i32⟩
  | .hbm, ⟨1, _⟩ => ⟨S4x2048, .i32⟩
  | .hbm, ⟨2, _⟩ => ⟨S4x2048, .f32⟩
  | .hbm, ⟨3, _⟩ => ⟨S4x2048, .f32⟩
  | .hbm, ⟨4, _⟩ => ⟨S_, .i32⟩
  | .hbm, ⟨5, _⟩ => ⟨S4x2048x1, .i32⟩
  | .hbm, ⟨6, _⟩ => ⟨S4x2048x1, .i32⟩
  | .hbm, ⟨7, _⟩ => ⟨S4x2048x2, .i32⟩
  | .hbm, ⟨8, _⟩ => ⟨S4x2048x1, .f32⟩
  | .hbm, ⟨9, _⟩ => ⟨S4x2048x1, .f32⟩
  | .hbm, ⟨10, _⟩ => ⟨S4x2048x2, .f32⟩
  | .hbm, ⟨11, _⟩ => ⟨S4x2x2048, .i32⟩
  | .hbm, ⟨12, _⟩ => ⟨S4x4096, .i32⟩
  | .hbm, ⟨13, _⟩ => ⟨S4x4096x1, .i32⟩
  | .hbm, ⟨14, _⟩ => ⟨S1x1x64, .i32⟩
  | .hbm, ⟨15, _⟩ => ⟨S4x4096x64, .i32⟩
  | .hbm, ⟨16, _⟩ => ⟨S4x4096x64, .i32⟩
  | .hbm, ⟨17, _⟩ => ⟨S4x4096x64, .i1⟩
  | .hbm, ⟨18, _⟩ => ⟨S4x4096x64, .i32⟩
  | .hbm, ⟨19, _⟩ => ⟨S_, .i32⟩
  | .hbm, ⟨20, _⟩ => ⟨S_, .i32⟩
  | .hbm, ⟨21, _⟩ => ⟨S4x4096x64, .i32⟩
  | .hbm, ⟨22, _⟩ => ⟨S4x4096x64, .f32⟩
  | .hbm, ⟨23, _⟩ => ⟨S4x4096x64, .f32⟩
  | .hbm, ⟨24, _⟩ => ⟨S4x4096x64, .f32⟩
  | .hbm, ⟨25, _⟩ => ⟨S_, .f32⟩
  | .hbm, ⟨26, _⟩ => ⟨S4x4096x64, .f32⟩
  | .hbm, ⟨27, _⟩ => ⟨S4x4096x64, .f32⟩
  | .hbm, ⟨28, _⟩ => ⟨S4x2x2048x64, .f32⟩
  | .hbm, ⟨29, _⟩ => ⟨S4x2048x2x64, .f32⟩
  | .hbm, ⟨30, _⟩ => ⟨S_, .f32⟩
  | .hbm, ⟨31, _⟩ => ⟨S4x2048x2, .f32⟩
  | .hbm, ⟨32, _⟩ => ⟨S4x2x2048, .i32⟩
  | .hbm, ⟨33, _⟩ => ⟨S4x2048x2, .i32⟩
  | .hbm, ⟨34, _⟩ => ⟨S_, .f32⟩
  | .hbm, ⟨35, _⟩ => ⟨S4x2048x2, .f32⟩
  | .hbm, ⟨36, _⟩ => ⟨S4x2048x2, .i1⟩
  | .hbm, ⟨37, _⟩ => ⟨S4x2048x2, .f32⟩
  | .hbm, ⟨38, _⟩ => ⟨S4x2048x2, .f32⟩
  | .hbm, ⟨39, _⟩ => ⟨S4x2048x2, .f32⟩
  | .hbm, ⟨40, _⟩ => ⟨S4x2048x4, .f32⟩
  | _, _ => ⟨S4x2048, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_v8 : Ref sig .tc := ⟨.hbm, 18, rfl⟩
abbrev main_call1_call0_c : Ref sig .tc := ⟨.hbm, 19, rfl⟩
abbrev main_call1_call0_v0 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_0 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== Router.lean ====
abbrev S4x2048x2048 : Shape := ⟨3, ![4, 2048, 2048]⟩
abbrev S2048x64 : Shape := ⟨2, ![2048, 64]⟩
abbrev S64x2048 : Shape := ⟨2, ![64, 2048]⟩
abbrev S4x1x2048 : Shape := ⟨3, ![4, 1, 2048]⟩
abbrev S1x1 : Shape := ⟨2, ![1, 1]⟩
abbrev S1x2048x2048 : Shape := ⟨3, ![1, 2048, 2048]⟩
abbrev S1x1x2048 : Shape := ⟨3, ![1, 1, 2048]⟩
abbrev S1x2048 : Shape := ⟨2, ![1, 2048]⟩
abbrev S64x128 : Shape := ⟨2, ![64, 128]⟩
abbrev S2048x2048 : Shape := ⟨2, ![2048, 2048]⟩
abbrev S2048 : Shape := ⟨1, ![2048]⟩
abbrev S8x2048 : Shape := ⟨2, ![8, 2048]⟩
abbrev S4x2048 : Shape := ⟨2, ![4, 2048]⟩
abbrev S2x2048 : Shape := ⟨2, ![2, 2048]⟩
abbrev S64 : Shape := ⟨1, ![64]⟩
abbrev S1x64 : Shape := ⟨2, ![1, 64]⟩
abbrev S1 : Shape := ⟨1, ![1]⟩
abbrev S1x1x1 : Shape := ⟨3, ![1, 1, 1]⟩

abbrev nBuf : Space → Nat
  | .hbm => 11
  | .vmem => 18
  | .smem => 4
  | _ => 0

abbrev bufTy : (tb : Table) → Fin (tcTables nBuf tb) → BufTy
  | .hbm, ⟨0, _⟩ => ⟨S4x2048x2048, .f32⟩
  | .hbm, ⟨1, _⟩ => ⟨S2048x64, .f32⟩
  | .hbm, ⟨2, _⟩ => ⟨S64x2048, .f32⟩
  | .hbm, ⟨3, _⟩ => ⟨S4x1x2048, .i32⟩
  | .hbm, ⟨4, _⟩ => ⟨S4x1x2048, .i32⟩
  | .hbm, ⟨5, _⟩ => ⟨S4x1x2048, .f32⟩
  | .hbm, ⟨6, _⟩ => ⟨S4x1x2048, .f32⟩
  | .hbm, ⟨7, _⟩ => ⟨S4x1x2048, .f32⟩
  | .hbm, ⟨8, _⟩ => ⟨S4x1x2048, .f32⟩
  | .hbm, ⟨9, _⟩ => ⟨S1x1, .f32⟩
  | .hbm, ⟨10, _⟩ => ⟨S1x1, .f32⟩
  | .local _ .vmem, ⟨0, _⟩ => ⟨S1x2048x2048, .f32⟩
  | .local _ .vmem, ⟨1, _⟩ => ⟨S1x2048x2048, .f32⟩
  | .local _ .vmem, ⟨2, _⟩ => ⟨S64x2048, .f32⟩
  | .local _ .vmem, ⟨3, _⟩ => ⟨S1x1x2048, .i32⟩
  | .local _ .vmem, ⟨4, _⟩ => ⟨S1x1x2048, .i32⟩
  | .local _ .vmem, ⟨5, _⟩ => ⟨S1x1x2048, .i32⟩
  | .local _ .vmem, ⟨6, _⟩ => ⟨S1x1x2048, .i32⟩
  | .local _ .vmem, ⟨7, _⟩ => ⟨S1x1x2048, .f32⟩
  | .local _ .vmem, ⟨8, _⟩ => ⟨S1x1x2048, .f32⟩
  | .local _ .vmem, ⟨9, _⟩ => ⟨S1x1x2048, .f32⟩
  | .local _ .vmem, ⟨10, _⟩ => ⟨S1x1x2048, .f32⟩
  | .local _ .vmem, ⟨11, _⟩ => ⟨S1x1x2048, .f32⟩
  | .local _ .vmem, ⟨12, _⟩ => ⟨S1x1x2048, .f32⟩
  | .local _ .vmem, ⟨13, _⟩ => ⟨S1x1x2048, .f32⟩
  | .local _ .vmem, ⟨14, _⟩ => ⟨S1x1x2048, .f32⟩
  | .local _ .vmem, ⟨15, _⟩ => ⟨S1x2048, .f32⟩
  | .local _ .vmem, ⟨16, _⟩ => ⟨S64x128, .f32⟩
  | .local _ .vmem, ⟨17, _⟩ => ⟨S64x128, .f32⟩
  | .local _ .smem, ⟨0, _⟩ => ⟨S1x1, .f32⟩
  | .local _ .smem, ⟨1, _⟩ => ⟨S1x1, .f32⟩
  | .local _ .smem, ⟨2, _⟩ => ⟨S1x1, .f32⟩
  | .local _ .smem, ⟨3, _⟩ => ⟨S1x1, .f32⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .smem, ⟨0, _⟩ => true
  | .smem, ⟨1, _⟩ => true
  | .smem, ⟨2, _⟩ => true
  | .smem, ⟨3, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v1_2 : Ref sig .tc := ⟨.hbm, 5, rfl⟩
abbrev main_v1_3 : Ref sig .tc := ⟨.hbm, 6, rfl⟩
abbrev main_v1_4 : Ref sig .tc := ⟨.hbm, 7, rfl⟩
abbrev main_v1_5 : Ref sig .tc := ⟨.hbm, 8, rfl⟩
abbrev main_v1_6 : Ref sig .tc := ⟨.hbm, 9, rfl⟩
abbrev main_v1_7 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch2 : Ref sig .tc := ⟨.vmem, 15, rfl⟩
abbrev cc0_scratch3 : Ref sig .tc := ⟨.vmem, 16, rfl⟩
abbrev cc0_scratch4 : Ref sig .tc := ⟨.vmem, 17, rfl⟩
abbrev cc0_stg8_0 : Ref sig .tc := ⟨.smem, 0, rfl⟩
abbrev cc0_stg9_0 : Ref sig .tc := ⟨.smem, 1, rfl⟩
abbrev cc0_scratch0 : Ref sig .tc := ⟨.smem, 2, rfl⟩
abbrev cc0_scratch1 : Ref sig .tc := ⟨.smem, 3, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem9_0 : DmaSem sig := 16

abbrev nD : Nat := 1
abbrev τ : Topo := Topo.v7x

variable {F : FTy → Type} [FloatOps F]

abbrev grid0 : Pipeline.Grid := ⟨2, ![4, 1], ![false, false]⟩

def k0_cond7 (i : grid0.Coords) : BitVec 1 :=
  let arg0 : BitVec 32 := BitVec.ofNat 32 (i 0).val
  let c3_i32 : BitVec 32 := 3#32
  let v206 : BitVec 1 := Scalar.cmpi .eq arg0 c3_i32
  let arg1 : BitVec 32 := BitVec.ofNat 32 (i 1).val
  let c0_i32_46 : BitVec 32 := 0#32
  let v207 : BitVec 1 := Scalar.cmpi .eq arg1 c0_i32_46
  let v208 : BitVec 1 := Scalar.andi v206 v207
  let v209 : BitVec 32 := Scalar.extui v208
  let c0_i32_47 : BitVec 32 := 0#32
  let v210 : BitVec 1 := Scalar.cmpi .ne v209 c0_i32_47
  v210

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x2048x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S64x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x2048 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x2048 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 1 → Memref sig .tc .smem S1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .smem S1x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]
-- ==== RouterReferenceIdeal.lean ====
abbrev S4x2048x2048 : Shape := ⟨3, ![4, 2048, 2048]⟩
abbrev S2048x64 : Shape := ⟨2, ![2048, 64]⟩
abbrev S4x2048x64 : Shape := ⟨3, ![4, 2048, 64]⟩
abbrev S_ : Shape := ⟨0, ![]⟩
abbrev S4x2048 : Shape := ⟨2, ![4, 2048]⟩
abbrev S4x2048x1 : Shape := ⟨3, ![4, 2048, 1]⟩
abbrev S4x2048x2 : Shape := ⟨3, ![4, 2048, 2]⟩
abbrev S4x2048x2x1 : Shape := ⟨4, ![4, 2048, 2, 1]⟩
abbrev S1x1x1x64 : Shape := ⟨4, ![1, 1, 1, 64]⟩
abbrev S4x2048x2x64 : Shape := ⟨4, ![4, 2048, 2, 64]⟩
abbrev S4x64 : Shape := ⟨2, ![4, 64]⟩
abbrev S4x1x2048 : Shape := ⟨3, ![4, 1, 2048]⟩
abbrev S1x1 : Shape := ⟨2, ![1, 1]⟩

abbrev nBuf : Space → Nat
  | .hbm => 92
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S2048x64, .f32⟩
  | .hbm, ⟨2, _⟩ => ⟨S4x2048x64, .f32⟩
  | .hbm, ⟨3, _⟩ => ⟨S_, .f32⟩
  | .hbm, ⟨4, _⟩ => ⟨S4x2048, .f32⟩
  | .hbm, ⟨5, _⟩ => ⟨S4x2048x1, .f32⟩
  | .hbm, ⟨6, _⟩ => ⟨S4x2048x64, .f32⟩
  | .hbm, ⟨7, _⟩ => ⟨S4x2048x64, .f32⟩
  | .hbm, ⟨8, _⟩ => ⟨S4x2048x64, .f32⟩
  | .hbm, ⟨9, _⟩ => ⟨S_, .f32⟩
  | .hbm, ⟨10, _⟩ => ⟨S4x2048, .f32⟩
  | .hbm, ⟨11, _⟩ => ⟨S4x2048, .f32⟩
  | .hbm, ⟨12, _⟩ => ⟨S4x2048, .f32⟩
  | .hbm, ⟨13, _⟩ => ⟨S4x2048, .f32⟩
  | .hbm, ⟨14, _⟩ => ⟨S4x2048, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S4x2048, .f32⟩
  | .hbm, ⟨21, _⟩ => ⟨S_, .f32⟩
  | .hbm, ⟨22, _⟩ => ⟨S4x2048, .f32⟩
  | .hbm, ⟨23, _⟩ => ⟨S4x2048, .f32⟩
  | .hbm, ⟨24, _⟩ => ⟨S4x2048x1, .f32⟩
  | .hbm, ⟨25, _⟩ => ⟨S4x2048x64, .f32⟩
  | .hbm, ⟨26, _⟩ => ⟨S4x2048x64, .f32⟩
  | .hbm, ⟨27, _⟩ => ⟨S4x2048x64, .f32⟩
  | .hbm, ⟨28, _⟩ => ⟨S_, .f32⟩
  | .hbm, ⟨29, _⟩ => ⟨S4x2048, .f32⟩
  | .hbm, ⟨30, _⟩ => ⟨S4x2048x1, .f32⟩
  | .hbm, ⟨31, _⟩ => ⟨S4x2048x64, .f32⟩
  | .hbm, ⟨32, _⟩ => ⟨S4x2048x64, .f32⟩
  | .hbm, ⟨33, _⟩ => ⟨S_, .f32⟩
  | .hbm, ⟨34, _⟩ => ⟨S4x2048, .f32⟩
  | .hbm, ⟨35, _⟩ => ⟨S_, .f32⟩
  | .hbm, ⟨36, _⟩ => ⟨S4x2048, .f32⟩
  | .hbm, ⟨37, _⟩ => ⟨S4x2048, .f32⟩
  | .hbm, ⟨38, _⟩ => ⟨S4x2048x1, .f32⟩
  | .hbm, ⟨39, _⟩ => ⟨S4x2048x64, .f32⟩
  | .hbm, ⟨40, _⟩ => ⟨S4x2048x64, .f32⟩
  | .hbm, ⟨41, _⟩ => ⟨S4x2048x64, .f32⟩
  | .hbm, ⟨42, _⟩ => ⟨S_, .f32⟩
  | .hbm, ⟨43, _⟩ => ⟨S4x2048, .f32⟩
  | .hbm, ⟨44, _⟩ => ⟨S4x2048x1, .f32⟩
  | .hbm, ⟨45, _⟩ => ⟨S4x2048x64, .f32⟩
  | .hbm, ⟨46, _⟩ => ⟨S4x2048x64, .f32⟩
  | .hbm, ⟨47, _⟩ => ⟨S4x2048x2, .f32⟩
  | .hbm, ⟨48, _⟩ => ⟨S4x2048x2, .i32⟩
  | .hbm, ⟨49, _⟩ => ⟨S4x2048x2x1, .i32⟩
  | .hbm, ⟨50, _⟩ => ⟨S1x1x1x64, .i32⟩
  | .hbm, ⟨51, _⟩ => ⟨S4x2048x2x64, .i32⟩
  | .hbm, ⟨52, _⟩ => ⟨S4x2048x2x64, .i32⟩
  | .hbm, ⟨53, _⟩ => ⟨S4x2048x2x64, .i1⟩
  | .hbm, ⟨54, _⟩ => ⟨S4x2048x2x64, .f32⟩
  | .hbm, ⟨55, _⟩ => ⟨S_, .f32⟩
  | .hbm, ⟨56, _⟩ => ⟨S4x2048x64, .f32⟩
  | .hbm, ⟨57, _⟩ => ⟨S_, .f32⟩
  | .hbm, ⟨58, _⟩ => ⟨S4x64, .f32⟩
  | .hbm, ⟨59, _⟩ => ⟨S_, .f32⟩
  | .hbm, ⟨60, _⟩ => ⟨S4x64, .f32⟩
  | .hbm, ⟨61, _⟩ => ⟨S4x64, .f32⟩
  | .hbm, ⟨62, _⟩ => ⟨S_, .f32⟩
  | .hbm, ⟨63, _⟩ => ⟨S4x64, .f32⟩
  | .hbm, ⟨64, _⟩ => ⟨S_, .f32⟩
  | .hbm, ⟨65, _⟩ => ⟨S4x64, .f32⟩
  | .hbm, ⟨66, _⟩ => ⟨S4x64, .f32⟩
  | .hbm, ⟨67, _⟩ => ⟨S4x64, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S4x2048x1, .i32⟩
  | .hbm, ⟨75, _⟩ => ⟨S4x2048, .i32⟩
  | .hbm, ⟨76, _⟩ => ⟨S4x2048x1, .i32⟩
  | .hbm, ⟨77, _⟩ => ⟨S4x2048, .i32⟩
  | .hbm, ⟨78, _⟩ => ⟨S4x1x2048, .i32⟩
  | .hbm, ⟨79, _⟩ => ⟨S4x1x2048, .i32⟩
  | .hbm, ⟨80, _⟩ => ⟨S4x2048, .f32⟩
  | .hbm, ⟨81, _⟩ => ⟨S4x1x2048, .f32⟩
  | .hbm, ⟨82, _⟩ => ⟨S4x2048, .f32⟩
  | .hbm, ⟨83, _⟩ => ⟨S4x1x2048, .f32⟩
  | .hbm, ⟨84, _⟩ => ⟨S4x2048x1, .f32⟩
  | .hbm, ⟨85, _⟩ => ⟨S4x2048, .f32⟩
  | .hbm, ⟨86, _⟩ => ⟨S4x1x2048, .f32⟩
  | .hbm, ⟨87, _⟩ => ⟨S4x2048x1, .f32⟩
  | .hbm, ⟨88, _⟩ => ⟨S4x2048, .f32⟩
  | .hbm, ⟨89, _⟩ => ⟨S4x1x2048, .f32⟩
  | .hbm, ⟨90, _⟩ => ⟨S1x1, .f32⟩
  | .hbm, ⟨91, _⟩ => ⟨S1x1, .f32⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_cst_2 : Ref sig .tc := ⟨.hbm, 17, rfl⟩
abbrev main_v12 : Ref sig .tc := ⟨.hbm, 18, rfl⟩
abbrev main_cst_3 : Ref sig .tc := ⟨.hbm, 19, rfl⟩
abbrev main_v13 : Ref sig .tc := ⟨.hbm, 20, rfl⟩
abbrev main_cst_4 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_5 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_6 : Ref sig .tc := ⟨.hbm, 33, rfl⟩
abbrev main_v24 : Ref sig .tc := ⟨.hbm, 34, rfl⟩
abbrev main_cst_7 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_8 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_values : Ref sig .tc := ⟨.hbm, 47, rfl⟩
abbrev main_indices : Ref sig .tc := ⟨.hbm, 48, rfl⟩
abbrev main_call0_v0 : Ref sig .tc := ⟨.hbm, 49, rfl⟩
abbrev main_call0_v1 : Ref sig .tc := ⟨.hbm, 50, rfl⟩
abbrev main_call0_v2 : Ref sig .tc := ⟨.hbm, 51, rfl⟩
abbrev main_call0_v3 : Ref sig .tc := ⟨.hbm, 52, rfl⟩
abbrev main_call0_v4 : Ref sig .tc := ⟨.hbm, 53, rfl⟩
abbrev main_v35 : Ref sig .tc := ⟨.hbm, 54, rfl⟩
abbrev main_cst_9 : Ref sig .tc := ⟨.hbm, 55, rfl⟩
abbrev main_v36 : Ref sig .tc := ⟨.hbm, 56, rfl⟩
abbrev main_cst_10 : Ref sig .tc := ⟨.hbm, 57, rfl⟩
abbrev main_v37 : Ref sig .tc := ⟨.hbm, 58, rfl⟩
abbrev main_cst_11 : Ref sig .tc := ⟨.hbm, 59, rfl⟩
abbrev main_v38 : Ref sig .tc := ⟨.hbm, 60, rfl⟩
abbrev main_v39 : Ref sig .tc := ⟨.hbm, 61, rfl⟩
abbrev main_cst_12 : Ref sig .tc := ⟨.hbm, 62, rfl⟩
abbrev main_v40 : Ref sig .tc := ⟨.hbm, 63, rfl⟩
abbrev main_cst_13 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_cst_14 : Ref sig .tc := ⟨.hbm, 68, rfl⟩
abbrev main_v44 : Ref sig .tc := ⟨.hbm, 69, rfl⟩
abbrev main_cst_15 : Ref sig .tc := ⟨.hbm, 70, rfl⟩
abbrev main_v45 : Ref sig .tc := ⟨.hbm, 71, rfl⟩
abbrev main_cst_16 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩

abbrev nD : Nat := 1
abbrev τ : Topo := Topo.v7x

variable {F : FTy → Type} [FloatOps F]
-- ==== Proof.Scan.lean ====
module

public import proofs.«01_k».proof.Proof.Gen.KernelIdeal
public import proofs.«01_k».proof.Proof.Gen.KernelIdeal.Skeleton
public import Mathlib.Data.Nat.Count

/-! The arithmetic of one step of the priority count: sixteen indices are looked up in the table of counts, each gets the
    count of its expert so far plus its rank among the equal indices before it in the step, and the last occurrence of each
    expert writes the new count back. Stated over functions, with no memory. -/

@[expose] public section

noncomputable section

namespace Cert.Proof.Priority

open Cert.KernelIdeal Cert.KernelIdeal.Gen
open Idealize.ShloMosaic

variable {F : FTy → Type}

/-- Element `t` of a row of 2048 (the position taken modulo the length, so that it is total). -/
def rowAt {α : Type} (f : S2048.Idx → α) (t : ℕ) : α := f (Shape.ofLane (d := ![2048]) ⟨t % 2048, Nat.mod_lt _ (by decide)⟩)
/-- Element `t` of a vector of sixteen. -/
def laneAt {α : Type} (v : S16.Idx → α) (t : ℕ) : α := v (Shape.ofLane (d := ![16]) ⟨t % 16, Nat.mod_lt _ (by decide)⟩)

theorem rowAt_val {α : Type} (f : S2048.Idx → α) (i : S2048.Idx) : rowAt f (i 0).val = f i := by
  unfold rowAt; congr 1; funext a; obtain rfl : a = 0 := Subsingleton.elim _ _
  exact Fin.ext (Nat.mod_eq_of_lt (i 0).isLt)
theorem laneAt_val {α : Type} (v : S16.Idx → α) (i : S16.Idx) : laneAt v (i 0).val = v i := by
  unfold laneAt; congr 1; funext a; obtain rfl : a = 0 := Subsingleton.elim _ _
  exact Fin.ext (Nat.mod_eq_of_lt (i 0).isLt)

/-- How many of the first `n` indices of the row name `e`. -/
def seen (f : S2048.Idx → BitVec 32) (n : ℕ) (e : BitVec 32) : ℕ := Nat.count (fun t => rowAt f t = e) n
/-- How many of the first `n` of the sixteen name `e`. -/
def rank (v : S16.Idx → BitVec 32) (n : ℕ) (e : BitVec 32) : ℕ := Nat.count (fun t => laneAt v t = e) n

theorem seen_add (f : S2048.Idx → BitVec 32) (v : S16.Idx → BitVec 32) (k : ℕ) (hv : ∀ x : S16.Idx, v x = rowAt f (16 * k + (x 0).val))
    (n : ℕ) (hn : n ≤ 16) (e : BitVec 32) : seen f (16 * k + n) e = seen f (16 * k) e + rank v n e := by
  unfold seen rank
  rw [Nat.count_add]; congr 1
  have h : ∀ t < n, (rowAt f (16 * k + t) = e ↔ laneAt v t = e) := fun t ht => by
    have := hv (Shape.ofLane (d := ![16]) ⟨t % 16, Nat.mod_lt _ (by decide)⟩)
    unfold laneAt; rw [this]
    show _ ↔ rowAt f (16 * k + t % 16) = e
    rw [Nat.mod_eq_of_lt (by omega)]
  rw [Nat.count_eq_card_filter_range, Nat.count_eq_card_filter_range]
  congr 1
  exact Finset.filter_congr fun t ht => h t (Finset.mem_range.mp ht)

/-- The scan's count at a lane: how many lanes up to it, itself included, name the same. -/
theorem scan_counts (v : S16.Idx → BitVec 32) (x : S16.Idx) :
    (scanCount (broadcast S16 1#1) v).2 x = BitVec.ofNat 32 (rank v ((x 0).val + 1) (v x)) := by
  have h1 : (broadcast S16 1#1 : IVec S16 1) x = 1 := rfl
  unfold scanCount; dsimp only
  rw [if_pos h1]
  congr 1
  unfold rank
  rw [Nat.count_eq_card_filter_range]
  refine Finset.card_bij (fun j _ => (j 0).val) ?_ ?_ ?_
  · intro j hj
    have hj := (Finset.mem_filter.mp hj).2
    have hp : (S16.rowMajor j).val ≤ (S16.rowMajor x).val := hj.1
    rw [Shape.rowMajor_val_one, Shape.rowMajor_val_one] at hp
    refine Finset.mem_filter.mpr ⟨Finset.mem_range.mpr (by omega), ?_⟩
    rw [laneAt_val]; exact hj.2.2
  · intro a _ b _ h
    funext c; obtain rfl : c = 0 := Subsingleton.elim _ _
    exact Fin.ext h
  · intro t ht
    obtain ⟨h1, h2⟩ := Finset.mem_filter.mp ht
    have h1 := Finset.mem_range.mp h1
    have hx : (x 0).val < 16 := (x 0).isLt
    refine ⟨Shape.ofLane (d := ![16]) ⟨t % 16, Nat.mod_lt _ (by decide)⟩, ?_, Nat.mod_eq_of_lt (by omega)⟩
    refine Finset.mem_filter.mpr ⟨Finset.mem_univ _, ?_, rfl, h2⟩
    rw [Shape.rowMajor_val_one, Shape.rowMajor_val_one]
    show t % 16 ≤ _
    rw [Nat.mod_eq_of_lt (by omega)]; omega

/-- The scan's mask at a lane: set where no later lane names the same. -/
theorem scan_mask (v : S16.Idx → BitVec 32) (x : S16.Idx) :
    (scanCount (broadcast S16 1#1) v).1 x = 1 ↔ ∀ y : S16.Idx, (x 0).val < (y 0).val → v y ≠ v x := by
  have hp : ∀ i : S16.Idx, (S16.rowMajor i).val = (i 0).val := fun i => Shape.rowMajor_val_one i
  unfold scanCount; dsimp only
  simp only [hp]
  split
  · rename_i h
    exact ⟨fun _ y hy e => h.2 y hy ⟨rfl, e⟩, fun _ => rfl⟩
  · rename_i h
    exact ⟨fun e => absurd e (by decide), fun hy => absurd ⟨rfl, fun y hp e => hy y hp e.2⟩ h⟩

theorem rank_succ (v : S16.Idx → BitVec 32) (x : S16.Idx) : rank v ((x 0).val + 1) (v x) = rank v (x 0).val (v x) + 1 := by
  unfold rank; rw [Nat.count_succ, if_pos (laneAt_val v x)]

theorem scan_base (x : S16.Idx) : k0_pay3 x = 1#32 := by
  show (scanCount (broadcast S16 1#1) (broadcast S16 0#32)).2 x - _ = _
  rw [scan_counts]
  have h : rank (broadcast S16 0#32) ((x 0).val + 1) ((broadcast S16 0#32 : IVec S16 32) x) = (x 0).val + 1 := by
    unfold rank
    rw [Nat.count_eq_card_filter_range, Finset.filter_true_of_mem
      (p := fun t => laneAt (broadcast S16 0#32) t = (broadcast S16 0#32 : IVec S16 32) x) (fun _ _ => rfl), Finset.card_range]
  rw [h]
  have h2 : (iota .scVector S16 32 [0] iota_S16_d0_w32_scVector) x = BitVec.ofNat 32 (x 0).val := by
    simp [iota]
  rw [h2]
  apply BitVec.eq_of_toNat_eq
  have : (x 0).val < 16 := (x 0).isLt
  simp; omega

/-! ## The scatter -/

section Scatter

variable {s : Shape} {e : EltTy} {d : Fin 1 → Nat}

/-- An element that no masked lane names keeps its contents. -/
theorem storeIdx_miss [FloatOps F] (f : Vec F s e) (idxs : Fin s.rank → IVec ⟨1, d⟩ 32) (v : Vec F ⟨1, d⟩ e) (mask : IVec ⟨1, d⟩ 1)
    (h : ∀ a x, (idxs a x).toNat < s.size a) (j : s.Idx)
    (hj : ∀ k : Fin (d 0), mask (Shape.ofLane k) = 1 → ¬ ∀ a, (j a).val = (idxAt idxs h (Shape.ofLane k) a).val) :
    storeIdx f idxs v mask false h j = f j := by
  unfold storeIdx
  induction List.finRange (d 0) generalizing f with
  | nil => rfl
  | cons k l ih =>
    rw [List.foldl_cons, ih]
    by_cases hm : mask (Shape.ofLane k) = 1
    · dsimp only; rw [if_pos hm, if_neg (hj k hm)]
    · dsimp only; rw [if_neg hm]

/-- An element that some masked lane names, all such lanes storing `y`, holds `y`. -/
theorem storeIdx_hit [FloatOps F] (f : Vec F s e) (idxs : Fin s.rank → IVec ⟨1, d⟩ 32) (v : Vec F ⟨1, d⟩ e) (mask : IVec ⟨1, d⟩ 1)
    (h : ∀ a x, (idxs a x).toNat < s.size a) (j : s.Idx) (y : Elt F e)
    (hv : ∀ k : Fin (d 0), mask (Shape.ofLane k) = 1 → (∀ a, (j a).val = (idxAt idxs h (Shape.ofLane k) a).val) → v (Shape.ofLane k) = y)
    (hj : ∃ k : Fin (d 0), mask (Shape.ofLane k) = 1 ∧ ∀ a, (j a).val = (idxAt idxs h (Shape.ofLane k) a).val) :
    storeIdx f idxs v mask false h j = y := by
  have key : ∀ step : Vec F s e → Fin (d 0) → Vec F s e,
      (∀ g k, (mask (Shape.ofLane k) = 1 ∧ ∀ a, (j a).val = (idxAt idxs h (Shape.ofLane k) a).val) → step g k j = y) →
      (∀ g k, ¬ (mask (Shape.ofLane k) = 1 ∧ ∀ a, (j a).val = (idxAt idxs h (Shape.ofLane k) a).val) → step g k j = g j) →
      ∀ (l : List (Fin (d 0))) (f : Vec F s e),
      (f j = y ∨ ∃ k ∈ l, mask (Shape.ofLane k) = 1 ∧ ∀ a, (j a).val = (idxAt idxs h (Shape.ofLane k) a).val) →
      l.foldl step f j = y := by
    intro step h1 h2 l
    induction l with
    | nil => intro f hf; rcases hf with hf | ⟨k, hk, _⟩
             · exact hf
             · exact absurd hk List.not_mem_nil
    | cons k l ih =>
      intro f hf
      rw [List.foldl_cons]
      apply ih
      by_cases hn : mask (Shape.ofLane k) = 1 ∧ ∀ a, (j a).val = (idxAt idxs h (Shape.ofLane k) a).val
      · exact .inl (h1 f k hn)
      · rw [h2 f k hn]
        rcases hf with hf | ⟨k', hk', hn'⟩
        · exact .inl hf
        · rcases List.mem_cons.mp hk' with rfl | hk'
          · exact absurd hn' hn
          · exact .inr ⟨k', hk', hn'⟩
  obtain ⟨k, hk⟩ := hj
  unfold storeIdx
  refine key _ (fun g k hn => ?_) (fun g k hn => ?_) _ f (.inr ⟨k, List.mem_finRange k, hk⟩)
  · dsimp only; rw [if_pos hn.1, if_pos hn.2]; exact hv k hn.1 hn.2
  · dsimp only
    by_cases hm : mask (Shape.ofLane k) = 1
    · rw [if_pos hm, if_neg fun hn' => hn ⟨hm, hn'⟩]
    · rw [if_neg hm]

end Scatter

/-! ## One step -/

section Step

variable [FloatOps F] (v18 : S16.Idx → BitVec 32) (h : ∀ a x, ((![v18] : Fin 1 → IVec S16 32) a x).toNat < S64.size a)
  (cnt : S64.Idx → BitVec 32) (tot : BitVec 32 → ℕ) (hcnt : ∀ j : S64.Idx, cnt j = BitVec.ofNat 32 (tot (BitVec.ofNat 32 (j 0).val)))

include hcnt

/-- The table looked up at the step's indices. -/
theorem lookup (x : S16.Idx) : loadIdx (F := F) (e := .i32) cnt (![v18] : Fin 1 → IVec S16 32) h x = BitVec.ofNat 32 (tot (v18 x)) := by
  show cnt (idxAt (![v18] : Fin 1 → IVec S16 32) h x) = _
  rw [hcnt]
  congr 2
  show BitVec.ofNat 32 (v18 x).toNat = v18 x
  simp

/-- The step's priorities: the count so far plus the rank within the step. -/
theorem step_pri (x : S16.Idx) :
    k0_pay6 (F := F) v18 (loadIdx (F := F) (e := .i32) cnt (![v18] : Fin 1 → IVec S16 32) h) x
      = BitVec.ofNat 32 (tot (v18 x) + rank v18 (x 0).val (v18 x)) := by
  show loadIdx (F := F) (e := .i32) cnt (![v18] : Fin 1 → IVec S16 32) h x + (scanCount (broadcast S16 1#1) v18).2 x - k0_pay3 x = _
  rw [lookup v18 h cnt tot hcnt, scan_counts, scan_base, rank_succ, BitVec.ofNat_add, BitVec.ofNat_add]
  rw [← BitVec.add_assoc, BitVec.add_sub_cancel]

/-- The table after the step: each count grown by the occurrences in the step. -/
theorem step_cnt (j : S64.Idx) :
    storeIdx (F := F) (e := .i32) cnt (![v18] : Fin 1 → IVec S16 32)
        (k0_pay7 (F := F) v18 (loadIdx (F := F) (e := .i32) cnt (![v18] : Fin 1 → IVec S16 32) h)) (k0_pay5 (F := F) v18) false h j
      = BitVec.ofNat 32 (tot (BitVec.ofNat 32 (j 0).val) + rank v18 16 (BitVec.ofNat 32 (j 0).val)) := by
  have hj64 : (j 0).val < 64 := (j 0).isLt
  have hname : ∀ k : Fin 16, (∀ a : Fin S64.rank, (j a).val = (idxAt (![v18] : Fin 1 → IVec S16 32) h (Shape.ofLane (d := ![16]) k) a).val)
      ↔ v18 (Shape.ofLane (d := ![16]) k) = BitVec.ofNat 32 (j 0).val := fun k => by
    constructor
    · intro hk
      have h0 : (j 0).val = (v18 (Shape.ofLane (d := ![16]) k)).toNat := hk 0
      rw [h0]; simp
    · intro hk a; obtain rfl : a = 0 := Subsingleton.elim _ _
      show (j 0).val = (v18 (Shape.ofLane (d := ![16]) k)).toNat
      rw [hk, BitVec.toNat_ofNat]; omega
  have hmask : ∀ x : S16.Idx, k0_pay5 (F := F) v18 x = 1 ↔ ∀ y : S16.Idx, (x 0).val < (y 0).val → v18 y ≠ v18 x := scan_mask v18
  by_cases hex : ∃ k : Fin 16, v18 (Shape.ofLane (d := ![16]) k) = BitVec.ofNat 32 (j 0).val
  · have hlane : ∀ t : ℕ, ∀ ht : t < 16, laneAt v18 t = v18 (Shape.ofLane (d := ![16]) ⟨t, ht⟩) := fun t ht => by
      unfold laneAt; congr 2; exact Fin.ext (Nat.mod_eq_of_lt ht)
    have hlast : ∀ k : Fin 16, k0_pay5 (F := F) v18 (Shape.ofLane (d := ![16]) k) = 1 → v18 (Shape.ofLane (d := ![16]) k) = BitVec.ofNat 32 (j 0).val →
        rank v18 16 (BitVec.ofNat 32 (j 0).val) = rank v18 (k.val + 1) (BitVec.ofNat 32 (j 0).val) := fun k hk hv => by
      have hl := (hmask _).mp hk
      have h16 : 16 = k.val + 1 + (16 - (k.val + 1)) := by omega
      unfold rank
      conv_lhs => rw [h16, Nat.count_add]
      rw [Nat.add_eq_left, Nat.count_eq_card_filter_range, Finset.card_eq_zero, Finset.filter_eq_empty_iff]
      intro t ht e
      have ht := Finset.mem_range.mp ht
      have hlt : k.val + 1 + t < 16 := by omega
      rw [hlane _ hlt] at e
      exact hl (Shape.ofLane (d := ![16]) ⟨_, hlt⟩) (by show k.val < k.val + 1 + t; omega) (e.trans hv.symm)
    refine storeIdx_hit (F := F) (s := S64) (e := .i32) (d := ![16]) cnt _ _ _ h j _ ?_ ?_
    · intro k hk hn
      have hv := (hname k).mp hn
      show k0_pay6 (F := F) v18 _ (Shape.ofLane (d := ![16]) k) + 1#32 = _
      rw [step_pri v18 h cnt tot hcnt, hv, hlast k hk hv]
      have hs : rank v18 (k.val + 1) (BitVec.ofNat 32 (j 0).val) = rank v18 k.val (BitVec.ofNat 32 (j 0).val) + 1 := by
        have := rank_succ v18 (Shape.ofLane (d := ![16]) k); rw [hv] at this; exact this
      rw [hs, ← Nat.add_assoc, BitVec.ofNat_add (tot _ + _) 1]; rfl
    · -- the last lane naming the expert
      have hne : (Finset.univ.filter fun k : Fin 16 => v18 (Shape.ofLane (d := ![16]) k) = BitVec.ofNat 32 (j 0).val).Nonempty := by
        obtain ⟨k, hk⟩ := hex; exact ⟨k, Finset.mem_filter.mpr ⟨Finset.mem_univ _, hk⟩⟩
      have hmem := Finset.max'_mem _ hne
      have hv := (Finset.mem_filter.mp hmem).2
      refine ⟨Finset.max' _ hne, (hmask _).mpr ?_, (hname _).mpr hv⟩
      intro y hy e
      have hyy : y = Shape.ofLane (d := ![16]) (y 0) := by
        funext a; obtain rfl : a = 0 := Subsingleton.elim _ _; rfl
      have hle := Finset.le_max' (Finset.univ.filter fun k : Fin 16 => v18 (Shape.ofLane (d := ![16]) k) = BitVec.ofNat 32 (j 0).val) (y 0) (Finset.mem_filter.mpr ⟨Finset.mem_univ _, by rw [← hyy]; exact e.trans hv⟩)
      exact absurd (Fin.le_def.mp hle) (not_le.mpr hy)
  · rw [storeIdx_miss (F := F) (s := S64) (e := .i32) (d := ![16]) cnt _ _ _ h j fun k _ hn => hex ⟨k, (hname k).mp hn⟩, hcnt]
    have : rank v18 16 (BitVec.ofNat 32 (j 0).val) = 0 := by
      unfold rank
      rw [Nat.count_eq_card_filter_range, Finset.card_eq_zero, Finset.filter_eq_empty_iff]
      intro t _ e
      exact hex ⟨_, e⟩
    rw [this, Nat.add_zero]

end Step

end Cert.Proof.Priority

end
-- ==== Proof.Rows.lean ====
module

public import proofs.«01_k».proof.Proof.Scan

/-! What the kernel computes, over whole arrays and over one row, and the elements of a row of the arrays in memory. -/

@[expose] public section

noncomputable section

namespace Cert.Proof.Priority

open Cert.KernelIdeal Cert.KernelIdeal.Gen
open Idealize.ShloMosaic

variable {F : FTy → Type}

/-! ## The function -/

/-- Row `b` of an array of four rows. -/
def rowOf {α : Type} (A : S4x2048.Idx → α) (b : Fin 4) : S2048.Idx → α := fun i => A (Shape.pair (d := ![4, 2048]) b (i 0))

/-- The priorities of a row of indices: at each position the count `base` the expert has before the row starts, and the equal
    indices before it in the row. -/
def priRow (base : BitVec 32 → ℕ) (f : S2048.Idx → BitVec 32) : IVec S2048 32 :=
  fun i => BitVec.ofNat 32 (base (f i) + seen f (i 0).val (f i))
/-- The same over the four rows, each with its own counts before it. -/
def priAll (base : Fin 4 → BitVec 32 → ℕ) (A : S4x2048.Idx → BitVec 32) : IVec S4x2048 32 :=
  fun j => BitVec.ofNat 32 (base (j 0) (A j) + seen (rowOf A (j 0)) (j 1).val (A j))

theorem rowOf_priAll (base : Fin 4 → BitVec 32 → ℕ) (A : S4x2048.Idx → BitVec 32) (b : Fin 4) :
    rowOf (priAll base A) b = priRow (base b) (rowOf A b) := rfl

/-- Before the first choices no expert has a count. -/
abbrev noBase : Fin 4 → BitVec 32 → ℕ := fun _ _ => 0
/-- Before the second choices each has all the first choices that name it. -/
abbrev firstBase (A : S4x2048.Idx → BitVec 32) : Fin 4 → BitVec 32 → ℕ := fun b e => seen (rowOf A b) 2048 e

/-- A weight where the priority is under the capacity, zero elsewhere. -/
def kept {s : Shape} [FloatOps F] (cap : BitVec 32) (p : IVec s 32) (w : FVec F s .f32) : FVec F s .f32 :=
  select (cmpi .slt p (broadcast s cap)) w (broadcast s (Scalar.ofBits .f32 0#32))

theorem rowOf_kept [FloatOps F] (cap : BitVec 32) (p : IVec S4x2048 32) (w : FVec F S4x2048 .f32) (b : Fin 4) :
    rowOf (kept cap p w) b = kept cap (rowOf p b) (rowOf w b) := rfl
theorem rowOf_sitofp [FloatOps F] (p : IVec S4x2048 32) (b : Fin 4) :
    rowOf (sitofp .f32 p : FVec F S4x2048 .f32) b = sitofp .f32 (rowOf p b) := rfl

/-! ## Sixteen elements of a row in a subcore's memory -/

/-- What a load of sixteen from position `16 * k` reads. -/
theorem read_sixteen {κ : Kind} {sp : Space} {e : EltTy} (v : View sig κ sp S2048 e) (off : Fin 1 → ℕ) (inb) (k : ℕ) (hoff : off = ![16 * k])
    (f : v.ty.Contents (Elt F)) (x : S16.Idx) :
    (v.slice (Rect.unit (s := S2048) off S16.size inb)).read (Elt F) f x = rowAt (v.read (Elt F) f) (16 * k + (x 0).val) := by
  subst hoff
  have hx : (x 0).val < 16 := (x 0).isLt
  have hk : 16 * k + 16 ≤ 2048 := inb 0
  rw [View.read_apply, rowAt, View.read_apply, View.emb_slice]
  show cast _ (f (v.emb ((Rect.unit (s := S2048) ![16 * k] S16.size inb).emb x))) = _
  congr 3; funext a; obtain rfl : a = 0 := Subsingleton.elim _ _
  apply Fin.ext
  show 16 * k + 1 * (x 0).val = (16 * k + (x 0).val) % 2048
  rw [Nat.mod_eq_of_lt (by omega), Nat.one_mul]

/-- A store of sixteen at position `16 * k` extends the positions at which a row has its final value. -/
theorem store_sixteen {κ : Kind} {sp : Space} {e : EltTy} (v : View sig κ sp S2048 e) (off : Fin 1 → ℕ) (inb) (k : ℕ) (hoff : off = ![16 * k])
    (f : v.ty.Contents (Elt F)) (w : S16.Idx → Elt F e) (goal : S2048.Idx → Elt F e)
    (hf : ∀ i : S2048.Idx, (i 0).val < 16 * k → v.read (Elt F) f i = goal i)
    (hw : ∀ x : S16.Idx, w x = rowAt goal (16 * k + (x 0).val)) (i : S2048.Idx) (hi : (i 0).val < 16 * (k + 1)) :
    v.read (Elt F) ((v.slice (Rect.unit (s := S2048) off S16.size inb)).write (Elt F) f w Finset.univ) i = goal i := by
  subst hoff
  by_cases h : 16 * k ≤ (i 0).val
  · have e : (Rect.unit (s := S2048) ![16 * k] S16.size inb).emb (Shape.ofLane (d := ![16]) ⟨(i 0).val - 16 * k, by show _ < 16; omega⟩) = i := by
      funext a; obtain rfl : a = 0 := Subsingleton.elim _ _
      apply Fin.ext
      show 16 * k + 1 * ((i 0).val - 16 * k) = (i 0).val
      omega
    have hr := View.read_slice_write_emb (Val := Elt F) (v := v) (Rect.unit (s := S2048) ![16 * k] S16.size inb) f w
      (M := Finset.univ) (x := Shape.ofLane (d := ![16]) ⟨(i 0).val - 16 * k, by show _ < 16; omega⟩) (Finset.mem_univ _)
    rw [e] at hr
    refine hr.trans ((hw _).trans ?_)
    show rowAt goal (16 * k + ((i 0).val - 16 * k)) = goal i
    rw [show 16 * k + ((i 0).val - 16 * k) = (i 0).val by omega, rowAt_val]
  · rw [View.read_slice_write_of_not_mem]
    · exact hf i (by omega)
    · intro hm
      rw [Rect.map_emb_univ, Rect.mem_set_unit] at hm
      exact h (hm 0).1

/-! ## A row of the arrays in memory -/

/-- The elements of row `w` (none when there is no such row). -/
def rowSet (w : ℕ) : Finset S4x2048.Idx := Finset.univ.filter fun j => (j 0).val = w

theorem mem_rowSet {w : ℕ} {j : S4x2048.Idx} : j ∈ rowSet w ↔ (j 0).val = w := by simp [rowSet]

/-- The row a subcore works on. -/
abbrev rowNo (L : grid0.Coords) : ℕ := 2 * (L 1).val + (L 0).val

theorem cond_iff : ∀ L : grid0.Coords, k0_cond1 L = 1#1 ↔ rowNo L < 4 := by
  decide +kernel

variable (L : grid0.Coords) (h1 : k0_cond1 L = 1)

abbrev rowRect : Rect S4x2048 := Rect.unit (s := S4x2048) (k0_off1 L) S1x2048.size (k0_off1_inb L h1)

theorem rowRect_emb (i : S2048.Idx) :
    (rowRect L h1).emb (Shape.reshapeEquiv squeezes_S1x2048_S2048.numel_eq i) = Shape.pair (d := ![4, 2048]) ⟨rowNo L, (cond_iff L).mp h1⟩ (i 0) := by
  rw [show (Shape.reshapeEquiv squeezes_S1x2048_S2048.numel_eq i : S1x2048.Idx) = Fin.cons ⟨0, Nat.one_pos⟩ i from Shape.reshapeEquiv_cons_one _ i]
  funext a
  apply Fin.ext
  have h := congrFun (k0_off1_eq L)
  match a with
  | 0 =>
    show k0_off1 L 0 + 1 * 0 = rowNo L
    rw [h 0]; rfl
  | 1 =>
    show k0_off1 L 1 + 1 * (i 0).val = (i 0).val
    rw [h 1]; simp

theorem rowRect_set : (rowRect L h1).set = rowSet (rowNo L) := by
  ext j
  have hj : (j 1).val < 2048 := (j 1).isLt
  have h := congrFun (k0_off1_eq L)
  have e0 : k0_off1 L 0 = rowNo L := h 0
  have e1 : k0_off1 L 1 = 0 := h 1
  rw [Rect.mem_set_unit, mem_rowSet]
  constructor
  · intro h
    have h0 : k0_off1 L 0 ≤ (j 0).val ∧ (j 0).val < k0_off1 L 0 + 1 := h 0
    omega
  · intro h a
    match a with
    | 0 => show k0_off1 L 0 ≤ (j 0).val ∧ (j 0).val < k0_off1 L 0 + 1; omega
    | 1 => show k0_off1 L 1 ≤ (j 1).val ∧ (j 1).val < k0_off1 L 1 + 2048; omega

/-- A row view reads its row. -/
theorem read_row {κ : Kind} {sp : Space} {e : EltTy} (v : View sig κ sp S4x2048 e) (f : v.ty.Contents (Elt F)) :
    ((v.slice (rowRect L h1)).reshape S2048 squeezes_S1x2048_S2048.numel_eq).read (Elt F) f
      = rowOf (v.read (Elt F) f) ⟨rowNo L, (cond_iff L).mp h1⟩ := by
  funext i
  rw [View.read_apply, View.emb_reshape, View.emb_slice]
  show cast _ (f (v.emb ((rowRect L h1).emb (Shape.reshapeEquiv squeezes_S1x2048_S2048.numel_eq i)))) = _
  rw [rowRect_emb]
  rfl

/-- A row view written whole leaves its row at what was written. -/
theorem write_row {κ : Kind} {sp : Space} {e : EltTy} (v : View sig κ sp S4x2048 e) (f : v.ty.Contents (Elt F)) (w : S2048.Idx → Elt F e)
    (G : S4x2048.Idx → Elt F e) (hw : ∀ i, w i = rowOf G ⟨rowNo L, (cond_iff L).mp h1⟩ i) (j : S4x2048.Idx) (hj : j ∈ rowSet (rowNo L)) :
    v.read (Elt F) (((v.slice (rowRect L h1)).reshape S2048 squeezes_S1x2048_S2048.numel_eq).write (Elt F) f w Finset.univ) j = G j := by
  have e : ((v.slice (rowRect L h1)).reshape S2048 squeezes_S1x2048_S2048.numel_eq).emb (Shape.ofLane (d := ![2048]) (j 1)) = v.emb j := by
    show v.emb ((rowRect L h1).emb (Shape.reshapeEquiv squeezes_S1x2048_S2048.numel_eq _)) = _
    rw [rowRect_emb]
    congr 1
    refine Eq.trans ?_ (Shape.pair_eta (d := ![4, 2048]) j)
    congr 1
    exact Fin.ext (mem_rowSet.mp hj).symm
  rw [View.read_apply, ← e, View.write_emb_of_mem _ _ (Finset.mem_univ _), cast_cast, cast_eq, hw]
  show G (Shape.pair (d := ![4, 2048]) _ (j 1)) = G j
  congr 1
  refine Eq.trans ?_ (Shape.pair_eta (d := ![4, 2048]) j)
  congr 1
  exact Fin.ext (mem_rowSet.mp hj).symm

end Cert.Proof.Priority

end
-- ==== Proof.Setup.lean ====
module

public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.ShareLeaves
public import Idealize.ShloMosaic.Lib.Tactic
public import proofs.«01_k».proof.Proof.Rows

/-! The program as the launch theorem sees it; the arrays and the subcores' memories; what each subcore is handed and hands back. -/

@[expose] public section

noncomputable section

namespace Cert.Proof.Priority

open Cert.KernelIdeal Cert.KernelIdeal.Gen
open Idealize.ShloMosaic
open Idealize.ShloMosaic.SparseCore (S V)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The launch -/

/-- The labels the SparseCore launch is stated over. -/
abbrev LP : Labels := Pipeline.Sig Λ₀ (Fin 0) fun p => (pcfgs (F := F) p).Adm
/-- The one SparseCore call. -/
abbrev K : SparseCore.Cfg τ sig (LP (F := F)) 1 := sc (F := F)
theorem subs_eq : (K (F := F)).nSub 0 = 16 := rfl
theorem cores_eq : (K (F := F)).nCore 0 = 2 := rfl
/-- The kernels' code under the launch's. -/
abbrev D [FloatOps F] : Defs nD τ sig (Elt F) (LP (F := F)) := Pipeline.defs pcfgs defs₀
/-- No loop of the kernel needs a variant. -/
abbrev 𝒱₀ : Variants := Variants.none
abbrev 𝒱 : Variants := 𝒱₀.lift
abbrev v₀ : 𝒱.V := Sum.inl none

theorem kfacts : (K (F := F)).Facts where
  start_ne_taskDone := show sc_start ≠ sc_taskDone by decide
  start_unscoped := show (SemLoc.reg sc_start : SemLoc sig).isScoped .scScalar = false by decide
  taskDone_unscoped := show (SemLoc.reg sc_taskDone : SemLoc sig).isScoped .scScalar = false by decide
  go_unscoped := show (SemLoc.reg sc_go : SemLoc sig).isScoped .scVector = false by decide
  done_unscoped := show (SemLoc.reg sc_done : SemLoc sig).isScoped .tc = false by decide
  noTaskShared := show ∀ (b : DevRef τ sig) (c : Fin τ.nSC), b.owner = .sc c → sig.taskShared b.table b.idx = false by decide
  noSeq := fun _ => rfl

/-- The handshakes' rounds. -/
abbrev UH : Type := URounds (GSem nD τ sig) ℕ
/-- The handshakes' rounds with the transfers' counters. -/
abbrev UU : Type := UH × Counters

local notation "𝕄" => MT nD τ sig (HIx 1) (Elt F) ℕ UU ℕ

abbrev EH : Emb UH (MT nD τ sig (HIx 1) (Elt F) ℕ UU ℕ) := embL

/-! ## The arrays -/

/-- The two arrays of indices, the two of weights, the capacity's vector, and the four results, as device `d` has them. -/
abbrev i1L (d : Dev nD) : Loc nD τ sig := (SparseCore.T d).loc main_arg0
abbrev i2L (d : Dev nD) : Loc nD τ sig := (SparseCore.T d).loc main_arg1
abbrev w1L (d : Dev nD) : Loc nD τ sig := (SparseCore.T d).loc main_arg2
abbrev w2L (d : Dev nD) : Loc nD τ sig := (SparseCore.T d).loc main_arg3
abbrev cpL (d : Dev nD) : Loc nD τ sig := (SparseCore.T d).loc main_v0
abbrev p1L (d : Dev nD) : Loc nD τ sig := (SparseCore.T d).loc main_v1_0
abbrev p2L (d : Dev nD) : Loc nD τ sig := (SparseCore.T d).loc main_v1_1
abbrev c1L (d : Dev nD) : Loc nD τ sig := (SparseCore.T d).loc main_v1_2
abbrev c2L (d : Dev nD) : Loc nD τ sig := (SparseCore.T d).loc main_v1_3

variable (m : (ℓ : Loc nD τ sig) → Buf (Elt F) ℓ)

/-- The arguments' contents as functions of an index. -/
abbrev I1 (d : Dev nD) : S4x2048.Idx → BitVec 32 := m (i1L d)
abbrev I2 (d : Dev nD) : S4x2048.Idx → BitVec 32 := m (i2L d)
abbrev W1 (d : Dev nD) : S4x2048.Idx → F .f32 := m (w1L d)
abbrev W2 (d : Dev nD) : S4x2048.Idx → F .f32 := m (w2L d)
/-- The capacity. -/
def cap (d : Dev nD) : BitVec 32 := (m ((SparseCore.T d).loc main_arg4) : S_.Idx → BitVec 32) (fun a => a.elim0)

variable [FloatOps F]

/-- What the kernel leaves in the four results: the priorities of the first and of the second choices, as floats, -/
def R1 (d : Dev nD) : S4x2048.Idx → F .f32 := sitofp .f32 (priAll noBase (I1 m d))
def R2 (d : Dev nD) : S4x2048.Idx → F .f32 := sitofp .f32 (priAll (firstBase (I1 m d)) (I2 m d))
/-- and the weights of the choices that fit. -/
def R3 (d : Dev nD) : S4x2048.Idx → F .f32 := kept (cap m d) (priAll noBase (I1 m d)) (W1 m d)
def R4 (d : Dev nD) : S4x2048.Idx → F .f32 := kept (cap m d) (priAll (firstBase (I1 m d)) (I2 m d)) (W2 m d)

/-! ## What a subcore is handed -/

/-- The share of the capacity's vector that subcore `i` of core `c` reads through. -/
abbrev capShare (c i : ℕ) : PosShare TreeShare :=
  ShareLeaves.leaf 4 (ShareLeaves.leaf 1 fullShare (⟨c % 2, Nat.mod_lt _ (by decide)⟩ : Fin (2 ^ 1))) (⟨i % 16, Nat.mod_lt _ (by decide)⟩ : Fin (2 ^ 4))

/-- One row of the arguments and of the results, the results at `f1`, `f2`, `f3`, `f4`, and a share of the capacity's vector. -/
abbrev rowPts (d : Dev nD) (c i : ℕ) (f1 : Buf (Elt F) (p1L d)) (f2 : Buf (Elt F) (p2L d)) (f3 : Buf (Elt F) (c1L d)) (f4 : Buf (Elt F) (c2L d)) : sProp 𝕄 :=
  iprop(((i1L d ↦[rowSet (2 * i + c)]{fullShare} m (i1L d)) ∗ (i2L d ↦[rowSet (2 * i + c)]{fullShare} m (i2L d))
      ∗ (w1L d ↦[rowSet (2 * i + c)]{fullShare} m (w1L d)) ∗ (w2L d ↦[rowSet (2 * i + c)]{fullShare} m (w2L d))
      ∗ (cpL d ↦{capShare c i} (fun _ => cap m d : S16.Idx → BitVec 32)))
    ∗ ((p1L d ↦[rowSet (2 * i + c)]{fullShare} f1) ∗ (p2L d ↦[rowSet (2 * i + c)]{fullShare} f2)
      ∗ (c1L d ↦[rowSet (2 * i + c)]{fullShare} f3) ∗ (c2L d ↦[rowSet (2 * i + c)]{fullShare} f4)))

/-- Before and after the call. -/
abbrev rowIn (d : Dev nD) (c i : ℕ) : sProp 𝕄 := rowPts m d c i (m (p1L d)) (m (p2L d)) (m (c1L d)) (m (c2L d))
abbrev rowOut (d : Dev nD) (c i : ℕ) : sProp 𝕄 := rowPts m d c i (R1 m d) (R2 m d) (R3 m d) (R4 m d)

/-- Each core is handed its subcores' rows, each subcore its row. -/
def P : (K (F := F)).Pay (nD := nD) (Val := Elt F) (Name := ℕ) (U := UU) where
  st := fun q d c => match q with | 0 => bigSep Finset.univ fun i : Fin 16 => rowIn m d c.val i.val
  dn := fun q d c => match q with | 0 => bigSep Finset.univ fun i : Fin 16 => rowOut m d c.val i.val
  go := fun q d c i => match q with | 0 => rowIn m d c.val i.val
  td := fun q d c i => match q with | 0 => rowOut m d c.val i.val
  x := fun _ _ => iprop(emp)

instance P_storable : (P (F := F) m).IsStorable where
  st q d c := match q with
    | 0 => (inferInstance : BI.Storable (upEmb : UEmb _ 𝕄) (bigSep Finset.univ fun i : Fin 16 => rowIn m d c.val i.val))
  dn q d c := match q with
    | 0 => (inferInstance : BI.Storable (upEmb : UEmb _ 𝕄) (bigSep Finset.univ fun i : Fin 16 => rowOut m d c.val i.val))
  go q d c i := match q with | 0 => (inferInstance : BI.Storable (upEmb : UEmb _ 𝕄) (rowIn m d c.val i.val))
  td q d c i := match q with | 0 => (inferInstance : BI.Storable (upEmb : UEmb _ 𝕄) (rowOut m d c.val i.val))

/-! ## A subcore's own semaphores and memory -/

/-- A product over a set is the product over a list of its members and over the rest. -/
theorem bigSep_list {M : Type} [URA M] {I : Type} [DecidableEq I] (Φ : I → sProp M) :
    ∀ (l : List I) (s : Finset I), l.Nodup → (∀ a ∈ l, a ∈ s) →
      bigSep s Φ = l.foldr (fun a R => iprop(Φ a ∗ R)) (bigSep (s \ l.toFinset) Φ)
  | [], s, _, _ => by simp
  | a :: l, s, hn, hm => by
    have ha : a ∈ s := hm a (List.mem_cons_self ..)
    rw [SparseCore.bigSep_erase' ha, bigSep_list Φ l (s.erase a) (List.nodup_cons.mp hn).2
      (fun b hb => Finset.mem_erase.mpr ⟨fun e => (List.nodup_cons.mp hn).1 (e ▸ hb), hm b (List.mem_cons_of_mem _ hb)⟩)]
    rw [List.foldr_cons, List.toFinset_cons, Finset.sdiff_insert, Finset.erase_sdiff_comm]

variable (d : Dev nD) (L : grid0.Coords)

abbrev cV (L : grid0.Coords) : Fin τ.nSC := (L 0).castLE hcore0
abbrev jV (L : grid0.Coords) : Fin τ.nSub := (L 1).castLE hsub0
/-- The subcore's thread. -/
abbrev me (d : Dev nD) (L : grid0.Coords) : Thread nD τ := V d (cV L) (jV L)

/-- The nine transfers' semaphores, in the order the body uses them. -/
def dmas : List (Fin 9) := [cc0_scoped0.sem, cc0_scoped1.sem, cc0_scoped2.sem, cc0_scoped3.sem, cc0_scoped4.sem, cc0_scoped5.sem, cc0_scoped6.sem,
  cc0_scoped7.sem, cc0_scoped8.sem]

/-- The ten scratch arrays. -/
def scratches : List (Ref sig .scVector) :=
  [cc0_scratch0, cc0_scratch1, cc0_scratch2, cc0_scratch3, cc0_scratch4, cc0_scratch5, cc0_scratch6, cc0_scratch7, cc0_scratch8, cc0_scratch9]

/-- A transfer's semaphore on the subcore's thread. -/
abbrev cell (d : Dev nD) (L : grid0.Coords) (s : Fin 9) : GSem nD τ sig := (me d L, .dma s)

/-- The subcore's semaphores other than the transfers'. -/
abbrev restSems : sProp 𝕄 := bigSep (ownCells (me d L) \ (dmas.map (cell d L)).toFinset) fun g => semVal g 0
/-- Its memory other than the ten scratch arrays. -/
abbrev restBufs : sProp 𝕄 :=
  bigSep (ownRefs (τ := τ) (.scVector (cV L) (jV L)) \ (scratches.map fun r => (Proc.scVector (cV L) (jV L)).devRef r).toFinset)
    fun b => iprop(∃ f, ((d, b) : Loc nD τ sig) ↦{fullShare} f)

omit [FloatOps F] in
theorem ownSems_split : (ownSems0 (me d L) : sProp 𝕄) = iprop(semVal (cell d L cc0_scoped0.sem) 0 ∗ semVal (cell d L cc0_scoped1.sem) 0 ∗ semVal (cell d L cc0_scoped2.sem) 0 ∗ semVal (cell d L cc0_scoped3.sem) 0 ∗ semVal (cell d L cc0_scoped4.sem) 0 ∗ semVal (cell d L cc0_scoped5.sem) 0 ∗ semVal (cell d L cc0_scoped6.sem) 0 ∗ semVal (cell d L cc0_scoped7.sem) 0 ∗ semVal (cell d L cc0_scoped8.sem) 0 ∗ restSems (F := F) d L) := by
  unfold SparseCore.Cfg.ownSems0
  refine (bigSep_list (fun g => semVal g 0) (dmas.map (cell d L)) (ownCells (me d L)) ?_ ?_).trans ?_
  rotate_left 2
  · unfold restSems
    generalize bigSep (ownCells (me d L) \ (dmas.map (cell d L)).toFinset) (fun g => (semVal g 0 : sProp 𝕄)) = R
    simp only [dmas, List.map_cons, List.map_nil, List.foldr_cons, List.foldr_nil]
  · exact List.Nodup.map (fun a b h => by simpa using h) (by decide)
  · intro g hg
    obtain ⟨s, -, rfl⟩ := List.mem_map.mp hg
    exact mem_ownCells.mpr ⟨rfl, (show ∀ s : Fin 9, (SemLoc.dma s : SemLoc sig).isScoped .scVector = true by decide) s⟩

omit [FloatOps F] in
theorem ownBufs_split : (ownBufs (me d L) : sProp 𝕄) = iprop((∃ f, (me d L).loc cc0_scratch0 ↦{fullShare} f) ∗ (∃ f, (me d L).loc cc0_scratch1 ↦{fullShare} f) ∗ (∃ f, (me d L).loc cc0_scratch2 ↦{fullShare} f) ∗ (∃ f, (me d L).loc cc0_scratch3 ↦{fullShare} f) ∗ (∃ f, (me d L).loc cc0_scratch4 ↦{fullShare} f) ∗ (∃ f, (me d L).loc cc0_scratch5 ↦{fullShare} f) ∗ (∃ f, (me d L).loc cc0_scratch6 ↦{fullShare} f) ∗ (∃ f, (me d L).loc cc0_scratch7 ↦{fullShare} f) ∗ (∃ f, (me d L).loc cc0_scratch8 ↦{fullShare} f) ∗ (∃ f, (me d L).loc cc0_scratch9 ↦{fullShare} f) ∗ restBufs (F := F) d L) := by
  unfold SparseCore.Cfg.ownBufs
  refine (bigSep_list (fun b => iprop(∃ f, ((d, b) : Loc nD τ sig) ↦{fullShare} f)) (scratches.map fun r => (Proc.scVector (cV L) (jV L)).devRef r)
    (ownRefs (τ := τ) (.scVector (cV L) (jV L))) ?_ ?_).trans ?_
  rotate_left 2
  · unfold restBufs
    generalize bigSep (ownRefs (τ := τ) (.scVector (cV L) (jV L)) \ (scratches.map fun r => (Proc.scVector (cV L) (jV L)).devRef r).toFinset)
      (fun b => (iprop(∃ f, ((d, b) : Loc nD τ sig) ↦{fullShare} f) : sProp 𝕄)) = R
    simp only [scratches, List.map_cons, List.map_nil, List.foldr_cons, List.foldr_nil]
  · exact List.Nodup.map (Proc.devRef_injective _) (show (scratches : List (Ref sig .scVector)).Nodup by decide)
  · intro b hb
    obtain ⟨r, hr, rfl⟩ := List.mem_map.mp hb
    refine SparseCore.Cfg.mem_ownRefs_of_owner ?_
    simp only [scratches, List.mem_cons, List.not_mem_nil, _root_.or_false] at hr
    rcases hr with rfl | rfl | rfl | rfl | rfl | rfl | rfl | rfl | rfl | rfl <;> rfl

end Cert.Proof.Priority

end
-- ==== Proof.Loops.lean ====
module

public import proofs.«01_k».proof.Proof.Setup

/-! The two loops of a subcore: sixteen indices a trip, the table of counts and the outputs so far carried from trip to trip. -/

@[expose] public section

noncomputable section

namespace Cert.Proof.Priority

open Cert.KernelIdeal Cert.KernelIdeal.Gen
open Idealize.ShloMosaic
open Idealize.ShloMosaic.SparseCore (S V)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## A trip, as functions -/

/-- The table holds, for each expert, the count before the row and the first `n` of the row. -/
def Counts (base : BitVec 32 → ℕ) (f : S2048.Idx → BitVec 32) (n : ℕ) (c : S64.Idx → BitVec 32) : Prop :=
  ∀ j : S64.Idx, c j = BitVec.ofNat 32 (base (BitVec.ofNat 32 (j 0).val) + seen f n (BitVec.ofNat 32 (j 0).val))
/-- The first `k` groups of sixteen of a row have their final values. -/
def Done {α : Type} (k : ℕ) (goal p : S2048.Idx → α) : Prop := ∀ i : S2048.Idx, (i 0).val < 16 * k → p i = goal i

section Trip

variable [FloatOps F] (base : BitVec 32 → ℕ) (f : S2048.Idx → BitVec 32) (k : ℕ) (hk : k < 128)
  (v18 : S16.Idx → BitVec 32) (hv : ∀ x : S16.Idx, v18 x = rowAt f (16 * k + (x 0).val))
  (h : ∀ a x, ((![v18] : Fin 1 → IVec S16 32) a x).toNat < S64.size a)
  (c : S64.Idx → BitVec 32) (hc : Counts base f (16 * k) c)

include hv hc in
theorem trip_counts : Counts base f (16 * (k + 1)) (storeIdx (F := F) (e := .i32) c (![v18] : Fin 1 → IVec S16 32)
    (k0_pay7 (F := F) v18 (loadIdx (F := F) (e := .i32) c (![v18] : Fin 1 → IVec S16 32) h)) (k0_pay5 (F := F) v18) false h) := by
  intro j
  rw [step_cnt v18 h c (fun e => base e + seen f (16 * k) e) hc j, show 16 * (k + 1) = 16 * k + 16 by omega,
    seen_add f v18 k hv 16 (le_refl _), Nat.add_assoc]

include hk hv hc in
theorem trip_pri (x : S16.Idx) :
    k0_pay6 (F := F) v18 (loadIdx (F := F) (e := .i32) c (![v18] : Fin 1 → IVec S16 32) h) x = rowAt (priRow base f) (16 * k + (x 0).val) := by
  have hx : (x 0).val < 16 := (x 0).isLt
  rw [step_pri v18 h c (fun e => base e + seen f (16 * k) e) hc x, Nat.add_assoc, ← seen_add f v18 k hv _ (by omega)]
  have hp : ∀ t, t < 2048 → rowAt (priRow base f) t = BitVec.ofNat 32 (base (rowAt f t) + seen f t (rowAt f t)) := fun t ht => by
    show BitVec.ofNat 32 (base (rowAt f t) + seen f (t % 2048) (rowAt f t)) = _
    rw [Nat.mod_eq_of_lt ht]
  rw [hp _ (by omega), ← hv x]

include hk hv hc in
theorem trip_out (x : S16.Idx) :
    k0_pay8 (F := F) v18 (loadIdx (F := F) (e := .i32) c (![v18] : Fin 1 → IVec S16 32) h) x
      = rowAt (sitofp .f32 (priRow base f) : FVec F S2048 .f32) (16 * k + (x 0).val) := by
  show FloatOps.sitofp _ _ = FloatOps.sitofp _ _
  congr 1
  exact trip_pri base f k hk v18 hv h c hc x

include hk hv hc in
theorem trip_kept (cp : BitVec 32) (v5 : S16.Idx → BitVec 32) (h5 : ∀ x, v5 x = cp) (g : S2048.Idx → F .f32) (v31 : S16.Idx → F .f32)
    (h31 : ∀ x : S16.Idx, v31 x = rowAt g (16 * k + (x 0).val)) (x : S16.Idx) :
    k0_pay9 (F := F) v5 v18 (loadIdx (F := F) (e := .i32) c (![v18] : Fin 1 → IVec S16 32) h) v31 x
      = rowAt (kept cp (priRow base f) g) (16 * k + (x 0).val) := by
  show Scalar.select (IntOp.cmpi .slt (k0_pay6 (F := F) v18 (loadIdx (F := F) (e := .i32) c (![v18] : Fin 1 → IVec S16 32) h) x) (v5 x)) (v31 x) _
    = Scalar.select (IntOp.cmpi .slt (rowAt (priRow base f) (16 * k + (x 0).val)) cp) (rowAt g (16 * k + (x 0).val)) _
  rw [trip_pri base f k hk v18 hv h c hc x, h5, h31]
  rfl

end Trip

/-! ## A trip, run -/

section Run

variable [FloatOps F] (d : Dev nD) (L : grid0.Coords) (h1 : k0_cond1 L = 1#1) (cp : BitVec 32)

/-- Between the trips of loop 1: the row of indices and of weights unchanged, the table and the two outputs as far as `k` trips bring them. -/
def inv1 (base : BitVec 32 → ℕ) (f : S2048.Idx → BitVec 32) (g : S2048.Idx → F .f32) (k : ℕ) (_ : Unit) : sProp 𝕄 :=
  iprop(((Memref.whole cc0_scratch0 : Memref sig .scVector .vmem S2048 .i32).view.loc (me d L) ↦{fullShare} f) ∗ ((Memref.whole cc0_scratch2 : Memref sig .scVector .vmem S2048 .f32).view.loc (me d L) ↦{fullShare} g)
    ∗ (∃ c : S64.Idx → BitVec 32, ⌜Counts base f (16 * k) c⌝ ∗ (Memref.whole cc0_scratch5 : Memref sig .scVector .vmem S64 .i32).view.loc (me d L) ↦{fullShare} c)
    ∗ (∃ p : S2048.Idx → F .f32, ⌜Done k (sitofp .f32 (priRow base f)) p⌝ ∗ (Memref.whole cc0_scratch6 : Memref sig .scVector .vmem S2048 .f32).view.loc (me d L) ↦{fullShare} p)
    ∗ (∃ q : S2048.Idx → F .f32, ⌜Done k (kept cp (priRow base f) g) q⌝ ∗ (Memref.whole cc0_scratch8 : Memref sig .scVector .vmem S2048 .f32).view.loc (me d L) ↦{fullShare} q))

omit [FloatOps F] in
/-- The table whole, as an indexed access spells it. -/
theorem table_access (c : S64.Idx → BitVec 32) :
    ((((Memref.whole cc0_scratch5 : Memref sig .scVector .vmem S64 .i32).access (.whole S64)).loc (me d L)
        ↦[((Memref.whole cc0_scratch5 : Memref sig .scVector .vmem S64 .i32).access (.whole S64)).set]{fullShare} c : sProp 𝕄))
      = (Memref.whole cc0_scratch5 : Memref sig .scVector .vmem S64 .i32).view.loc (me d L) ↦{fullShare} c := by
  rw [show ((Memref.whole cc0_scratch5 : Memref sig .scVector .vmem S64 .i32).access (.whole S64)).set = Finset.univ from
    Memref.set_access_whole (cc0_scratch5 : Ref sig .scVector)]

theorem trip1 (base : BitVec 32 → ℕ) (f : S2048.Idx → BitVec 32) (hf : ∀ i, (f i).toNat < 64) (g : S2048.Idx → F .f32)
    (v5 : S16.Idx → BitVec 32) (h5 : ∀ x, v5 x = cp) (k : Fin k0_t1_loop.trips) :
    inv1 d L cp base f g k.val ()
      ⊢ wp frame (wpE (defs₀ (F := F)) 𝒱₀ (me d L) none) Set.univ
          (k0_t1_body (F := F) L (Memref.whole main_arg0_scv) (Memref.isWhole_whole _) (Memref.whole main_arg1_scv) (Memref.isWhole_whole _) (Memref.whole main_arg2_scv) (Memref.isWhole_whole _) (Memref.whole main_arg3_scv) (Memref.isWhole_whole _) (Memref.whole main_v0_scv) (Memref.isWhole_whole _) (Memref.whole main_v1_0_scv) (Memref.isWhole_whole _) (Memref.whole main_v1_1_scv) (Memref.isWhole_whole _) (Memref.whole main_v1_2_scv) (Memref.isWhole_whole _) (Memref.whole main_v1_3_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scoped0 cc0_scoped1 cc0_scoped2 cc0_scoped3 cc0_scoped4 cc0_scoped5 cc0_scoped6 cc0_scoped7 cc0_scoped8 h1 v5 k ())
          fun _ => inv1 d L cp base f g (k.val + 1) () := by
  unfold k0_t1_body inv1
  iintro ⟨Hf, Hg, ⟨%c, %hc, Hc⟩, ⟨%p, %hp, Hp⟩, ⟨%q, %hq, Hq⟩⟩
  sl_exec
  generalize hv' : View.readAt (Elt F) (Memref.whole cc0_scratch0 : Memref sig .scVector .vmem S2048 .i32).view _ f = v18
  have hv : ∀ x : S16.Idx, v18 x = rowAt f (16 * k.val + (x 0).val) := fun x => by
    rw [← hv']; exact read_sixteen (F := F) (Memref.whole cc0_scratch0 : Memref sig .scVector .vmem S2048 .i32).view (k0_off2 k) (k0_off2_inb L k h1) k.val (k0_off2_eq k) f x
  have hlt : ∀ a x, ((![v18] : Fin 1 → IVec S16 32) a x).toNat < S64.size a := fun a x => by
    obtain rfl : a = 0 := Subsingleton.elim _ _
    show (v18 x).toNat < 64
    rw [hv]; exact hf _
  have hk : k.val < 128 := k.isLt
  have hchk : k0_chk1 L v18 := ⟨fun _ => hlt, fun _ => hlt⟩
  rw [wp_assume_of _ _ _ _ hchk]
  ihave Hc' := (Entails.of_eq (table_access (F := F) d L c).symm) $$ Hc
  iapply (SparseCore.wp_vectorLoadIdx 𝒱₀ (me d L) none Set.univ (base := (Memref.whole cc0_scratch5 : Memref sig .scVector .vmem S64 .i32))
    (S := ((Memref.whole cc0_scratch5 : Memref sig .scVector .vmem S64 .i32).access (.whole S64)).set) (q := fullShare) subset_rfl) $$ Hc'
  iintro Hc'
  iapply (SparseCore.wp_vectorStoreIdx 𝒱₀ (me d L) none Set.univ (base := (Memref.whole cc0_scratch5 : Memref sig .scVector .vmem S64 .i32))) $$ Hc'
  iintro Hc'
  ihave Hc := (Entails.of_eq (table_access (F := F) d L _)) $$ Hc'
  sl_exec
  sl_step
  have hr : ∀ c : S64.Idx → BitVec 32, View.read (Elt F) ((Memref.whole (cc0_scratch5 : Ref sig .scVector)).access (Rect.whole (cc0_scratch5 : Ref sig .scVector).ty.shape)) c = c :=
    fun c => Memref.read_access_whole (Elt F) (cc0_scratch5 : Ref sig .scVector) c
  isplitl [Hf]; · iexact Hf
  isplitl [Hg]; · iexact Hg
  isplitl [Hc]
  · iexists _
    isplitr
    swap
    · iexact Hc
    ipureintro
    rw [hr]
    exact (congrArg (Counts base f (16 * (k.val + 1))) (Memref.write_access_whole_univ (Elt F) (cc0_scratch5 : Ref sig .scVector) c _)).mpr
      (trip_counts (F := F) base f k.val v18 hv hlt c hc)
  isplitl [Hp]
  · iexists _
    isplitr
    swap
    · iexact Hp
    ipureintro
    rw [hr]
    intro i hi
    exact store_sixteen (F := F) (Memref.whole cc0_scratch6 : Memref sig .scVector .vmem S2048 .f32).view (k0_off3 k) (k0_off3_inb L k h1) k.val (k0_off3_eq k) p _ _
      hp (fun x => trip_out (F := F) base f k.val hk v18 hv hlt c hc x) i hi
  · iexists _
    isplitr
    swap
    · iexact Hq
    ipureintro
    rw [hr]
    intro i hi
    exact store_sixteen (F := F) (Memref.whole cc0_scratch8 : Memref sig .scVector .vmem S2048 .f32).view (k0_off3 k) (k0_off3_inb L k h1) k.val (k0_off3_eq k) q _ _
      hq (fun x => trip_kept (F := F) base f k.val hk v18 hv hlt c hc cp v5 h5 g _
        (fun x => read_sixteen (F := F) (Memref.whole cc0_scratch2 : Memref sig .scVector .vmem S2048 .f32).view (k0_off3 k) (k0_off3_inb L k h1) k.val (k0_off3_eq k) g x) x) i hi

/-- Between the trips of loop 2: the row of indices and of weights unchanged, the table and the two outputs as far as `k` trips bring them. -/
def inv2 (base : BitVec 32 → ℕ) (f : S2048.Idx → BitVec 32) (g : S2048.Idx → F .f32) (k : ℕ) (_ : Unit) : sProp 𝕄 :=
  iprop(((Memref.whole cc0_scratch1 : Memref sig .scVector .vmem S2048 .i32).view.loc (me d L) ↦{fullShare} f) ∗ ((Memref.whole cc0_scratch3 : Memref sig .scVector .vmem S2048 .f32).view.loc (me d L) ↦{fullShare} g)
    ∗ (∃ c : S64.Idx → BitVec 32, ⌜Counts base f (16 * k) c⌝ ∗ (Memref.whole cc0_scratch5 : Memref sig .scVector .vmem S64 .i32).view.loc (me d L) ↦{fullShare} c)
    ∗ (∃ p : S2048.Idx → F .f32, ⌜Done k (sitofp .f32 (priRow base f)) p⌝ ∗ (Memref.whole cc0_scratch7 : Memref sig .scVector .vmem S2048 .f32).view.loc (me d L) ↦{fullShare} p)
    ∗ (∃ q : S2048.Idx → F .f32, ⌜Done k (kept cp (priRow base f) g) q⌝ ∗ (Memref.whole cc0_scratch9 : Memref sig .scVector .vmem S2048 .f32).view.loc (me d L) ↦{fullShare} q))

theorem trip2 (base : BitVec 32 → ℕ) (f : S2048.Idx → BitVec 32) (hf : ∀ i, (f i).toNat < 64) (g : S2048.Idx → F .f32)
    (v5 : S16.Idx → BitVec 32) (h5 : ∀ x, v5 x = cp) (k : Fin k0_t2_loop.trips) :
    inv2 d L cp base f g k.val ()
      ⊢ wp frame (wpE (defs₀ (F := F)) 𝒱₀ (me d L) none) Set.univ
          (k0_t2_body (F := F) L (Memref.whole main_arg0_scv) (Memref.isWhole_whole _) (Memref.whole main_arg1_scv) (Memref.isWhole_whole _) (Memref.whole main_arg2_scv) (Memref.isWhole_whole _) (Memref.whole main_arg3_scv) (Memref.isWhole_whole _) (Memref.whole main_v0_scv) (Memref.isWhole_whole _) (Memref.whole main_v1_0_scv) (Memref.isWhole_whole _) (Memref.whole main_v1_1_scv) (Memref.isWhole_whole _) (Memref.whole main_v1_2_scv) (Memref.isWhole_whole _) (Memref.whole main_v1_3_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scoped0 cc0_scoped1 cc0_scoped2 cc0_scoped3 cc0_scoped4 cc0_scoped5 cc0_scoped6 cc0_scoped7 cc0_scoped8 h1 v5 k ())
          fun _ => inv2 d L cp base f g (k.val + 1) () := by
  unfold k0_t2_body inv2
  iintro ⟨Hf, Hg, ⟨%c, %hc, Hc⟩, ⟨%p, %hp, Hp⟩, ⟨%q, %hq, Hq⟩⟩
  sl_exec
  generalize hv' : View.readAt (Elt F) (Memref.whole cc0_scratch1 : Memref sig .scVector .vmem S2048 .i32).view _ f = v18
  have hv : ∀ x : S16.Idx, v18 x = rowAt f (16 * k.val + (x 0).val) := fun x => by
    rw [← hv']; exact read_sixteen (F := F) (Memref.whole cc0_scratch1 : Memref sig .scVector .vmem S2048 .i32).view (k0_off4 k) (k0_off4_inb L k h1) k.val (k0_off4_eq k) f x
  have hlt : ∀ a x, ((![v18] : Fin 1 → IVec S16 32) a x).toNat < S64.size a := fun a x => by
    obtain rfl : a = 0 := Subsingleton.elim _ _
    show (v18 x).toNat < 64
    rw [hv]; exact hf _
  have hk : k.val < 128 := k.isLt
  have hchk : k0_chk2 L v18 := ⟨fun _ => hlt, fun _ => hlt⟩
  rw [wp_assume_of _ _ _ _ hchk]
  ihave Hc' := (Entails.of_eq (table_access (F := F) d L c).symm) $$ Hc
  iapply (SparseCore.wp_vectorLoadIdx 𝒱₀ (me d L) none Set.univ (base := (Memref.whole cc0_scratch5 : Memref sig .scVector .vmem S64 .i32))
    (S := ((Memref.whole cc0_scratch5 : Memref sig .scVector .vmem S64 .i32).access (.whole S64)).set) (q := fullShare) subset_rfl) $$ Hc'
  iintro Hc'
  iapply (SparseCore.wp_vectorStoreIdx 𝒱₀ (me d L) none Set.univ (base := (Memref.whole cc0_scratch5 : Memref sig .scVector .vmem S64 .i32))) $$ Hc'
  iintro Hc'
  ihave Hc := (Entails.of_eq (table_access (F := F) d L _)) $$ Hc'
  sl_exec
  sl_step
  have hr : ∀ c : S64.Idx → BitVec 32, View.read (Elt F) ((Memref.whole (cc0_scratch5 : Ref sig .scVector)).access (Rect.whole (cc0_scratch5 : Ref sig .scVector).ty.shape)) c = c :=
    fun c => Memref.read_access_whole (Elt F) (cc0_scratch5 : Ref sig .scVector) c
  isplitl [Hf]; · iexact Hf
  isplitl [Hg]; · iexact Hg
  isplitl [Hc]
  · iexists _
    isplitr
    swap
    · iexact Hc
    ipureintro
    rw [hr]
    exact (congrArg (Counts base f (16 * (k.val + 1))) (Memref.write_access_whole_univ (Elt F) (cc0_scratch5 : Ref sig .scVector) c _)).mpr
      (trip_counts (F := F) base f k.val v18 hv hlt c hc)
  isplitl [Hp]
  · iexists _
    isplitr
    swap
    · iexact Hp
    ipureintro
    rw [hr]
    intro i hi
    exact store_sixteen (F := F) (Memref.whole cc0_scratch7 : Memref sig .scVector .vmem S2048 .f32).view (k0_off5 k) (k0_off5_inb L k h1) k.val (k0_off5_eq k) p _ _
      hp (fun x => trip_out (F := F) base f k.val hk v18 hv hlt c hc x) i hi
  · iexists _
    isplitr
    swap
    · iexact Hq
    ipureintro
    rw [hr]
    intro i hi
    exact store_sixteen (F := F) (Memref.whole cc0_scratch9 : Memref sig .scVector .vmem S2048 .f32).view (k0_off5 k) (k0_off5_inb L k h1) k.val (k0_off5_eq k) q _ _
      hq (fun x => trip_kept (F := F) base f k.val hk v18 hv hlt c hc cp v5 h5 g _
        (fun x => read_sixteen (F := F) (Memref.whole cc0_scratch3 : Memref sig .scVector .vmem S2048 .f32).view (k0_off5 k) (k0_off5_inb L k h1) k.val (k0_off5_eq k) g x) x) i hi

end Run

end Cert.Proof.Priority

end
-- ==== Proof.Tile.lean ====
module

public import proofs.«01_k».proof.Proof.Loops

/-! A subcore's whole task: the row fetched, the two loops, the results written back; and the same task as the launch asks for it. -/

@[expose] public section

noncomputable section

namespace Cert.Proof.Priority

open Cert.KernelIdeal Cert.KernelIdeal.Gen
open Idealize.ShloMosaic
open Idealize.ShloMosaic.SparseCore (S V)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

section Tile

variable (m : (ℓ : Loc nD τ sig) → Buf (Elt F) ℓ) [FloatOps F] (d : Dev nD) (L : grid0.Coords)

/-- The row of `v` that the subcore works on, as the body names it. -/
abbrev rowView {e : EltTy} (v : Memref sig .scVector .hbm S4x2048 e) (h1 : k0_cond1 L = 1#1) : Memref sig .scVector .hbm S2048 e :=
  (v.slice (Rect.unit (s := S4x2048) (k0_off1 L) S1x2048.size (k0_off1_inb L h1)) (fun _ => rfl)).squeeze S2048 squeezes_S1x2048_S2048

/-! A row of each array in memory, as the body names it. -/

omit [FloatOps F] in
theorem pts_main_arg0 (h1 : k0_cond1 L = 1#1) (f : Buf (Elt F) (i1L d)) :
    ((rowView L (Memref.whole main_arg0_scv : Memref sig .scVector .hbm S4x2048 .i32) h1).view.loc (me d L)
        ↦[(rowView L (Memref.whole main_arg0_scv : Memref sig .scVector .hbm S4x2048 .i32) h1).view.set]{fullShare} f : sProp 𝕄)
      = i1L d ↦[rowSet (2 * (L 1).val + (L 0).val)]{fullShare} f := by
  rw [show (rowView L (Memref.whole main_arg0_scv : Memref sig .scVector .hbm S4x2048 .i32) h1).view.set = rowSet (2 * (L 1).val + (L 0).val) from
    (View.set_reshape _ _).trans ((View.set_slice_whole _ _).trans (rowRect_set L h1))]

omit [FloatOps F] in
theorem pts_main_arg1 (h1 : k0_cond1 L = 1#1) (f : Buf (Elt F) (i2L d)) :
    ((rowView L (Memref.whole main_arg1_scv : Memref sig .scVector .hbm S4x2048 .i32) h1).view.loc (me d L)
        ↦[(rowView L (Memref.whole main_arg1_scv : Memref sig .scVector .hbm S4x2048 .i32) h1).view.set]{fullShare} f : sProp 𝕄)
      = i2L d ↦[rowSet (2 * (L 1).val + (L 0).val)]{fullShare} f := by
  rw [show (rowView L (Memref.whole main_arg1_scv : Memref sig .scVector .hbm S4x2048 .i32) h1).view.set = rowSet (2 * (L 1).val + (L 0).val) from
    (View.set_reshape _ _).trans ((View.set_slice_whole _ _).trans (rowRect_set L h1))]

omit [FloatOps F] in
theorem pts_main_arg2 (h1 : k0_cond1 L = 1#1) (f : Buf (Elt F) (w1L d)) :
    ((rowView L (Memref.whole main_arg2_scv : Memref sig .scVector .hbm S4x2048 .f32) h1).view.loc (me d L)
        ↦[(rowView L (Memref.whole main_arg2_scv : Memref sig .scVector .hbm S4x2048 .f32) h1).view.set]{fullShare} f : sProp 𝕄)
      = w1L d ↦[rowSet (2 * (L 1).val + (L 0).val)]{fullShare} f := by
  rw [show (rowView L (Memref.whole main_arg2_scv : Memref sig .scVector .hbm S4x2048 .f32) h1).view.set = rowSet (2 * (L 1).val + (L 0).val) from
    (View.set_reshape _ _).trans ((View.set_slice_whole _ _).trans (rowRect_set L h1))]

omit [FloatOps F] in
theorem pts_main_arg3 (h1 : k0_cond1 L = 1#1) (f : Buf (Elt F) (w2L d)) :
    ((rowView L (Memref.whole main_arg3_scv : Memref sig .scVector .hbm S4x2048 .f32) h1).view.loc (me d L)
        ↦[(rowView L (Memref.whole main_arg3_scv : Memref sig .scVector .hbm S4x2048 .f32) h1).view.set]{fullShare} f : sProp 𝕄)
      = w2L d ↦[rowSet (2 * (L 1).val + (L 0).val)]{fullShare} f := by
  rw [show (rowView L (Memref.whole main_arg3_scv : Memref sig .scVector .hbm S4x2048 .f32) h1).view.set = rowSet (2 * (L 1).val + (L 0).val) from
    (View.set_reshape _ _).trans ((View.set_slice_whole _ _).trans (rowRect_set L h1))]

omit [FloatOps F] in
theorem pts_main_v1_0 (h1 : k0_cond1 L = 1#1) (f : Buf (Elt F) (p1L d)) :
    ((rowView L (Memref.whole main_v1_0_scv : Memref sig .scVector .hbm S4x2048 .f32) h1).view.loc (me d L)
        ↦[(rowView L (Memref.whole main_v1_0_scv : Memref sig .scVector .hbm S4x2048 .f32) h1).view.set]{fullShare} f : sProp 𝕄)
      = p1L d ↦[rowSet (2 * (L 1).val + (L 0).val)]{fullShare} f := by
  rw [show (rowView L (Memref.whole main_v1_0_scv : Memref sig .scVector .hbm S4x2048 .f32) h1).view.set = rowSet (2 * (L 1).val + (L 0).val) from
    (View.set_reshape _ _).trans ((View.set_slice_whole _ _).trans (rowRect_set L h1))]

omit [FloatOps F] in
theorem pts_main_v1_1 (h1 : k0_cond1 L = 1#1) (f : Buf (Elt F) (p2L d)) :
    ((rowView L (Memref.whole main_v1_1_scv : Memref sig .scVector .hbm S4x2048 .f32) h1).view.loc (me d L)
        ↦[(rowView L (Memref.whole main_v1_1_scv : Memref sig .scVector .hbm S4x2048 .f32) h1).view.set]{fullShare} f : sProp 𝕄)
      = p2L d ↦[rowSet (2 * (L 1).val + (L 0).val)]{fullShare} f := by
  rw [show (rowView L (Memref.whole main_v1_1_scv : Memref sig .scVector .hbm S4x2048 .f32) h1).view.set = rowSet (2 * (L 1).val + (L 0).val) from
    (View.set_reshape _ _).trans ((View.set_slice_whole _ _).trans (rowRect_set L h1))]

omit [FloatOps F] in
theorem pts_main_v1_2 (h1 : k0_cond1 L = 1#1) (f : Buf (Elt F) (c1L d)) :
    ((rowView L (Memref.whole main_v1_2_scv : Memref sig .scVector .hbm S4x2048 .f32) h1).view.loc (me d L)
        ↦[(rowView L (Memref.whole main_v1_2_scv : Memref sig .scVector .hbm S4x2048 .f32) h1).view.set]{fullShare} f : sProp 𝕄)
      = c1L d ↦[rowSet (2 * (L 1).val + (L 0).val)]{fullShare} f := by
  rw [show (rowView L (Memref.whole main_v1_2_scv : Memref sig .scVector .hbm S4x2048 .f32) h1).view.set = rowSet (2 * (L 1).val + (L 0).val) from
    (View.set_reshape _ _).trans ((View.set_slice_whole _ _).trans (rowRect_set L h1))]

omit [FloatOps F] in
theorem pts_main_v1_3 (h1 : k0_cond1 L = 1#1) (f : Buf (Elt F) (c2L d)) :
    ((rowView L (Memref.whole main_v1_3_scv : Memref sig .scVector .hbm S4x2048 .f32) h1).view.loc (me d L)
        ↦[(rowView L (Memref.whole main_v1_3_scv : Memref sig .scVector .hbm S4x2048 .f32) h1).view.set]{fullShare} f : sProp 𝕄)
      = c2L d ↦[rowSet (2 * (L 1).val + (L 0).val)]{fullShare} f := by
  rw [show (rowView L (Memref.whole main_v1_3_scv : Memref sig .scVector .hbm S4x2048 .f32) h1).view.set = rowSet (2 * (L 1).val + (L 0).val) from
    (View.set_reshape _ _).trans ((View.set_slice_whole _ _).trans (rowRect_set L h1))]

/-- The row number as a row of the arrays. -/
abbrev rowFin (h1 : k0_cond1 L = 1#1) : Fin 4 := ⟨rowNo L, (cond_iff L).mp h1⟩

omit [FloatOps F] in
theorem seen_zero (f : S2048.Idx → BitVec 32) (e : BitVec 32) : seen f 0 e = 0 := Nat.count_zero _

omit [FloatOps F] in
/-- A row written by one transfer holds what was written. -/
theorem write_row_whole {κ : Kind} {sp : Space} {e : EltTy} (h1 : k0_cond1 L = 1#1) (v : View sig κ sp S4x2048 e) (f : v.ty.Contents (Elt F))
    (w : S2048.Idx → Elt F e) (G : S4x2048.Idx → Elt F e) (hw : w = rowOf G (rowFin L h1)) (j : S4x2048.Idx) (hj : j ∈ rowSet (rowNo L)) :
    v.read (Elt F) (((v.slice (rowRect L h1)).reshape S2048 squeezes_S1x2048_S2048.numel_eq).writes (Elt F) f [⟨Rect.whole S2048, w⟩]) j = G j := by
  have hq : Shape.pair (d := ![4, 2048]) (rowFin L h1) (j 1) = j := by
    refine Eq.trans ?_ (Shape.pair_eta (d := ![4, 2048]) j)
    congr 1
    exact Fin.ext (mem_rowSet.mp hj).symm
  have e : (((v.slice (rowRect L h1)).reshape S2048 squeezes_S1x2048_S2048.numel_eq).slice (Rect.whole S2048)).emb (Shape.ofLane (d := ![2048]) (j 1)) = v.emb j := by
    show v.emb ((rowRect L h1).emb (Shape.reshapeEquiv squeezes_S1x2048_S2048.numel_eq ((Rect.whole S2048).emb _))) = _
    rw [Rect.emb_whole_apply, rowRect_emb]
    exact congrArg v.emb hq
  rw [View.writes_singleton, View.read_apply, ← e, View.write_emb_of_mem _ _ (Finset.mem_univ _), cast_cast, cast_eq, hw]
  exact congrArg G hq

omit [FloatOps F] in
/-- Sixteen more entries of the table set to zero. -/
theorem clear_sixteen {κ : Kind} {sp : Space} {e : EltTy} (v : View sig κ sp S64 e) (o k : ℕ) (ho : o = 16 * k) (inb)
    (f : v.ty.Contents (Elt F)) (w : S16.Idx → Elt F e) (z : Elt F e)
    (hf : ∀ i : S64.Idx, (i 0).val < 16 * k → v.read (Elt F) f i = z) (hw : ∀ x : S16.Idx, w x = z) (i : S64.Idx) (hi : (i 0).val < 16 * (k + 1)) :
    v.read (Elt F) ((v.slice (Rect.unit (s := S64) ![o] S16.size inb)).write (Elt F) f w Finset.univ) i = z := by
  subst ho
  by_cases h : 16 * k ≤ (i 0).val
  · have e : (Rect.unit (s := S64) ![16 * k] S16.size inb).emb (Shape.ofLane (d := ![16]) ⟨(i 0).val - 16 * k, by show _ < 16; omega⟩) = i := by
      funext a; obtain rfl : a = 0 := Subsingleton.elim _ _
      apply Fin.ext
      show 16 * k + 1 * ((i 0).val - 16 * k) = (i 0).val
      omega
    have hr := View.read_slice_write_emb (Val := Elt F) (v := v) (Rect.unit (s := S64) ![16 * k] S16.size inb) f w
      (M := Finset.univ) (x := Shape.ofLane (d := ![16]) ⟨(i 0).val - 16 * k, by show _ < 16; omega⟩) (Finset.mem_univ _)
    rw [e] at hr
    exact hr.trans (hw _)
  · rw [View.read_slice_write_of_not_mem]
    · exact hf i (by omega)
    · intro hm
      rw [Rect.map_emb_univ, Rect.mem_set_unit] at hm
      exact h (hm 0).1

/-- The table set to zero holds no counts. -/
theorem table_zero (base : Fin 4 → BitVec 32 → ℕ) (b : Fin 4) (f : S2048.Idx → BitVec 32) (hb : base b = fun _ => 0) :
    Counts (base b) f (16 * 0) ((Memref.whole cc0_scratch5 : Memref sig .scVector .vmem S64 .i32).view.writes (Elt F)
      (Memref.whole cc0_scratch5 : Memref sig .scVector .vmem S64 .i32).view.junk
      [⟨Rect.unit (s := S64) ![48] S16.size inb_S64_S16_48, k0_pay1⟩, ⟨Rect.unit (s := S64) ![32] S16.size inb_S64_S16_32, k0_pay1⟩,
        ⟨Rect.unit (s := S64) ![16] S16.size inb_S64_S16_16, k0_pay1⟩, ⟨Rect.unit (s := S64) ![0] S16.size inb_S64_S16_0, k0_pay1⟩]) := by
  intro j
  have hj : (j 0).val < 16 * (3 + 1) := (j 0).isLt
  rw [hb, seen_zero]
  let v : View sig .scVector .vmem S64 .i32 := (Memref.whole cc0_scratch5 : Memref sig .scVector .vmem S64 .i32).view
  exact clear_sixteen (F := F) v 48 3 rfl inb_S64_S16_48 _ k0_pay1 (0#32) (fun i hi => clear_sixteen (F := F) v 32 2 rfl inb_S64_S16_32 _ k0_pay1 (0#32)
    (fun i hi => clear_sixteen (F := F) v 16 1 rfl inb_S64_S16_16 _ k0_pay1 (0#32) (fun i hi => clear_sixteen (F := F) v 0 0 rfl inb_S64_S16_0 _ k0_pay1 (0#32)
      (fun i hi => absurd hi (Nat.not_lt_zero _)) (fun _ => rfl) i hi) (fun _ => rfl) i hi) (fun _ => rfl) i hi) (fun _ => rfl) j hj

omit [FloatOps F] in
/-- A row of a result once written. -/
theorem out_main_v1_0 (h1 : k0_cond1 L = 1#1) (f : Buf (Elt F) (p1L d)) (w : S2048.Idx → F .f32) (G : S4x2048.Idx → F .f32) (hw : w = rowOf G (rowFin L h1)) :
    ((rowView L (Memref.whole main_v1_0_scv : Memref sig .scVector .hbm S4x2048 .f32) h1).view.loc (me d L)
        ↦[(rowView L (Memref.whole main_v1_0_scv : Memref sig .scVector .hbm S4x2048 .f32) h1).view.set]{fullShare}
          (rowView L (Memref.whole main_v1_0_scv : Memref sig .scVector .hbm S4x2048 .f32) h1).view.writes (Elt F) f [⟨Rect.whole S2048, w⟩] : sProp 𝕄)
      = p1L d ↦[rowSet (2 * (L 1).val + (L 0).val)]{fullShare} G := by
  rw [pts_main_v1_0]
  refine pointsTo_congr fun j hj => ?_
  have h := write_row_whole (F := F) L h1 (View.whole (main_v1_0_scv : Ref sig .scVector)) f w G hw j hj
  rw [View.read_whole] at h
  exact h

omit [FloatOps F] in
/-- A row of a result once written. -/
theorem out_main_v1_1 (h1 : k0_cond1 L = 1#1) (f : Buf (Elt F) (p2L d)) (w : S2048.Idx → F .f32) (G : S4x2048.Idx → F .f32) (hw : w = rowOf G (rowFin L h1)) :
    ((rowView L (Memref.whole main_v1_1_scv : Memref sig .scVector .hbm S4x2048 .f32) h1).view.loc (me d L)
        ↦[(rowView L (Memref.whole main_v1_1_scv : Memref sig .scVector .hbm S4x2048 .f32) h1).view.set]{fullShare}
          (rowView L (Memref.whole main_v1_1_scv : Memref sig .scVector .hbm S4x2048 .f32) h1).view.writes (Elt F) f [⟨Rect.whole S2048, w⟩] : sProp 𝕄)
      = p2L d ↦[rowSet (2 * (L 1).val + (L 0).val)]{fullShare} G := by
  rw [pts_main_v1_1]
  refine pointsTo_congr fun j hj => ?_
  have h := write_row_whole (F := F) L h1 (View.whole (main_v1_1_scv : Ref sig .scVector)) f w G hw j hj
  rw [View.read_whole] at h
  exact h

omit [FloatOps F] in
/-- A row of a result once written. -/
theorem out_main_v1_2 (h1 : k0_cond1 L = 1#1) (f : Buf (Elt F) (c1L d)) (w : S2048.Idx → F .f32) (G : S4x2048.Idx → F .f32) (hw : w = rowOf G (rowFin L h1)) :
    ((rowView L (Memref.whole main_v1_2_scv : Memref sig .scVector .hbm S4x2048 .f32) h1).view.loc (me d L)
        ↦[(rowView L (Memref.whole main_v1_2_scv : Memref sig .scVector .hbm S4x2048 .f32) h1).view.set]{fullShare}
          (rowView L (Memref.whole main_v1_2_scv : Memref sig .scVector .hbm S4x2048 .f32) h1).view.writes (Elt F) f [⟨Rect.whole S2048, w⟩] : sProp 𝕄)
      = c1L d ↦[rowSet (2 * (L 1).val + (L 0).val)]{fullShare} G := by
  rw [pts_main_v1_2]
  refine pointsTo_congr fun j hj => ?_
  have h := write_row_whole (F := F) L h1 (View.whole (main_v1_2_scv : Ref sig .scVector)) f w G hw j hj
  rw [View.read_whole] at h
  exact h

omit [FloatOps F] in
/-- A row of a result once written. -/
theorem out_main_v1_3 (h1 : k0_cond1 L = 1#1) (f : Buf (Elt F) (c2L d)) (w : S2048.Idx → F .f32) (G : S4x2048.Idx → F .f32) (hw : w = rowOf G (rowFin L h1)) :
    ((rowView L (Memref.whole main_v1_3_scv : Memref sig .scVector .hbm S4x2048 .f32) h1).view.loc (me d L)
        ↦[(rowView L (Memref.whole main_v1_3_scv : Memref sig .scVector .hbm S4x2048 .f32) h1).view.set]{fullShare}
          (rowView L (Memref.whole main_v1_3_scv : Memref sig .scVector .hbm S4x2048 .f32) h1).view.writes (Elt F) f [⟨Rect.whole S2048, w⟩] : sProp 𝕄)
      = c2L d ↦[rowSet (2 * (L 1).val + (L 0).val)]{fullShare} G := by
  rw [pts_main_v1_3]
  refine pointsTo_congr fun j hj => ?_
  have h := write_row_whole (F := F) L h1 (View.whole (main_v1_3_scv : Ref sig .scVector)) f w G hw j hj
  rw [View.read_whole] at h
  exact h

theorem tile_body (hI : ∀ j, (I1 m d j).toNat < 64) (hI' : ∀ j, (I2 m d j).toNat < 64) (h1 : k0_cond1 L = 1#1)
    (O : CellTallies nD τ sig (HIx 1)) (W : Waits sig (HIx 1)) (hO : ∀ g, O g none = 0) :
    iprop(levAts (K (F := F)).L (K (F := F)).lev ∗ emp ∗ rowIn m d (L 0).val (L 1).val
        ∗ scopedBufs (me d L) ∗ scopedSems0 (me d L) ∗ owes (me d L) O W)
      ⊢ wp frame (wpE (defs₀ (F := F)) 𝒱₀ (me d L) none) Set.univ
          (cc0_sck (F := F) L (Memref.whole main_arg0_scv) (Memref.isWhole_whole _) (Memref.whole main_arg1_scv) (Memref.isWhole_whole _) (Memref.whole main_arg2_scv) (Memref.isWhole_whole _) (Memref.whole main_arg3_scv) (Memref.isWhole_whole _) (Memref.whole main_v0_scv) (Memref.isWhole_whole _) (Memref.whole main_v1_0_scv) (Memref.isWhole_whole _) (Memref.whole main_v1_1_scv) (Memref.isWhole_whole _) (Memref.whole main_v1_2_scv) (Memref.isWhole_whole _) (Memref.whole main_v1_3_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scoped0 cc0_scoped1 cc0_scoped2 cc0_scoped3 cc0_scoped4 cc0_scoped5 cc0_scoped6 cc0_scoped7 cc0_scoped8)
          fun _ => iprop(rowOut m d (L 0).val (L 1).val ∗ scopedBufs (me d L) ∗ scopedSems0 (me d L)
            ∗ ∃ W', ⌜∀ p ∈ W', p ∈ W ∨ p.2 = none ∨ p.2 = some (0 : Fin 1)⌝ ∗ owes (me d L) O W') := by
  rw [(K (F := F)).scopedBufs_V kfacts d (cV L) (jV L), SparseCore.Cfg.scopedSems0_V (Val := Elt F) d (cV L) (jV L), ownSems_split, ownBufs_split]
  iintro ⟨#Hlv, -, ⟨⟨Hi1, Hi2, Hw1, Hw2, Hcp⟩, ⟨Hp1, Hp2, Hc1, Hc2⟩⟩,
    ⟨⟨%g0, Hs0⟩, ⟨%g1, Hs1⟩, ⟨%g2, Hs2⟩, ⟨%g3, Hs3⟩, ⟨%g4, Hs4⟩, ⟨%g5, Hs5⟩, ⟨%g6, Hs6⟩, ⟨%g7, Hs7⟩, ⟨%g8, Hs8⟩, ⟨%g9, Hs9⟩, Hbufs⟩,
    ⟨Hm0, Hm1, Hm2, Hm3, Hm4, Hm5, Hm6, Hm7, Hm8, Hsems⟩, HO⟩
  ihave Hmw := (show levAts (K (F := F)).L (K (F := F)).lev ⊢ Transfers.MayWaits (me d L) (default : HIx 1) O from
    (K (F := F)).mayWaits_none (thr := me d L) hO) $$ Hlv
  ihave Hi1' := (Entails.of_eq (pts_main_arg0 (F := F) d L h1 _).symm) $$ Hi1
  ihave Hi2' := (Entails.of_eq (pts_main_arg1 (F := F) d L h1 _).symm) $$ Hi2
  ihave Hw1' := (Entails.of_eq (pts_main_arg2 (F := F) d L h1 _).symm) $$ Hw1
  ihave Hw2' := (Entails.of_eq (pts_main_arg3 (F := F) d L h1 _).symm) $$ Hw2
  ihave Hp1' := (Entails.of_eq (pts_main_v1_0 (F := F) d L h1 _).symm) $$ Hp1
  ihave Hp2' := (Entails.of_eq (pts_main_v1_1 (F := F) d L h1 _).symm) $$ Hp2
  ihave Hc1' := (Entails.of_eq (pts_main_v1_2 (F := F) d L h1 _).symm) $$ Hc1
  ihave Hc2' := (Entails.of_eq (pts_main_v1_3 (F := F) d L h1 _).symm) $$ Hc2
  ihave Hs0' := (show ((me d L).loc cc0_scratch0 ↦{fullShare} g0 : sProp 𝕄) ⊢ (Memref.whole cc0_scratch0 : Memref sig .scVector .vmem S2048 .i32).view.loc (me d L) ↦{fullShare} g0 from .rfl) $$ Hs0
  ihave Hs1' := (show ((me d L).loc cc0_scratch1 ↦{fullShare} g1 : sProp 𝕄) ⊢ (Memref.whole cc0_scratch1 : Memref sig .scVector .vmem S2048 .i32).view.loc (me d L) ↦{fullShare} g1 from .rfl) $$ Hs1
  ihave Hs2' := (show ((me d L).loc cc0_scratch2 ↦{fullShare} g2 : sProp 𝕄) ⊢ (Memref.whole cc0_scratch2 : Memref sig .scVector .vmem S2048 .f32).view.loc (me d L) ↦{fullShare} g2 from .rfl) $$ Hs2
  ihave Hs3' := (show ((me d L).loc cc0_scratch3 ↦{fullShare} g3 : sProp 𝕄) ⊢ (Memref.whole cc0_scratch3 : Memref sig .scVector .vmem S2048 .f32).view.loc (me d L) ↦{fullShare} g3 from .rfl) $$ Hs3
  ihave Hs4' := (show ((me d L).loc cc0_scratch4 ↦{fullShare} g4 : sProp 𝕄) ⊢ (Memref.whole cc0_scratch4 : Memref sig .scVector .vmem S16 .i32).view.loc (me d L) ↦{fullShare} g4 from .rfl) $$ Hs4
  ihave Hs5' := (show ((me d L).loc cc0_scratch5 ↦{fullShare} g5 : sProp 𝕄) ⊢ (Memref.whole cc0_scratch5 : Memref sig .scVector .vmem S64 .i32).view.loc (me d L) ↦{fullShare} g5 from .rfl) $$ Hs5
  ihave Hs6' := (show ((me d L).loc cc0_scratch6 ↦{fullShare} g6 : sProp 𝕄) ⊢ (Memref.whole cc0_scratch6 : Memref sig .scVector .vmem S2048 .f32).view.loc (me d L) ↦{fullShare} g6 from .rfl) $$ Hs6
  ihave Hs7' := (show ((me d L).loc cc0_scratch7 ↦{fullShare} g7 : sProp 𝕄) ⊢ (Memref.whole cc0_scratch7 : Memref sig .scVector .vmem S2048 .f32).view.loc (me d L) ↦{fullShare} g7 from .rfl) $$ Hs7
  ihave Hs8' := (show ((me d L).loc cc0_scratch8 ↦{fullShare} g8 : sProp 𝕄) ⊢ (Memref.whole cc0_scratch8 : Memref sig .scVector .vmem S2048 .f32).view.loc (me d L) ↦{fullShare} g8 from .rfl) $$ Hs8
  ihave Hs9' := (show ((me d L).loc cc0_scratch9 ↦{fullShare} g9 : sProp 𝕄) ⊢ (Memref.whole cc0_scratch9 : Memref sig .scVector .vmem S2048 .f32).view.loc (me d L) ↦{fullShare} g9 from .rfl) $$ Hs9
  ihave Hcp' := (show (cpL d ↦{capShare (L 0).val (L 1).val} (fun _ => cap m d : S16.Idx → BitVec 32) : sProp 𝕄) ⊢ (Memref.whole main_v0_scv : Memref sig .scVector .hbm S16 .i32).view.loc (me d L) ↦{capShare (L 0).val (L 1).val} (fun _ => cap m d : S16.Idx → BitVec 32) from .rfl) $$ Hcp
  sl_unfold [cc0_sck]
  sl_exec (disch := exact View.amount_pos _ _ (show 0 < S2048.numel by decide))
  have w0 : View.write (Elt F) (Memref.whole cc0_scratch0 : Memref sig .scVector .vmem S2048 .i32).view g0 (tile_body.sl.dma0 m d L h1) Finset.univ
      = rowOf (I1 m d) (rowFin L h1) :=
    (View.write_whole_univ (Val := Elt F) (cc0_scratch0 : Ref sig .scVector) g0 _).trans
      (read_row (F := F) L h1 (Memref.whole main_arg0_scv : Memref sig .scVector .hbm S4x2048 .i32).view (I1 m d))
  have w1 : View.write (Elt F) (Memref.whole cc0_scratch1 : Memref sig .scVector .vmem S2048 .i32).view g1 (tile_body.sl.dma0_1 m d L h1) Finset.univ
      = rowOf (I2 m d) (rowFin L h1) :=
    (View.write_whole_univ (Val := Elt F) (cc0_scratch1 : Ref sig .scVector) g1 _).trans
      (read_row (F := F) L h1 (Memref.whole main_arg1_scv : Memref sig .scVector .hbm S4x2048 .i32).view (I2 m d))
  have w2 : View.write (Elt F) (Memref.whole cc0_scratch2 : Memref sig .scVector .vmem S2048 .f32).view g2 (tile_body.sl.dma0_2 m d L h1) Finset.univ
      = rowOf (W1 m d) (rowFin L h1) :=
    (View.write_whole_univ (Val := Elt F) (cc0_scratch2 : Ref sig .scVector) g2 _).trans
      (read_row (F := F) L h1 (Memref.whole main_arg2_scv : Memref sig .scVector .hbm S4x2048 .f32).view (W1 m d))
  have w3 : View.write (Elt F) (Memref.whole cc0_scratch3 : Memref sig .scVector .vmem S2048 .f32).view g3 (tile_body.sl.dma0_3 m d L h1) Finset.univ
      = rowOf (W2 m d) (rowFin L h1) :=
    (View.write_whole_univ (Val := Elt F) (cc0_scratch3 : Ref sig .scVector) g3 _).trans
      (read_row (F := F) L h1 (Memref.whole main_arg3_scv : Memref sig .scVector .hbm S4x2048 .f32).view (W2 m d))
  rw [w0, w1, w2, w3]
  have w5 : ∀ x, tile_body.sl.r m d L g4 x = cap m d := fun x =>
    congrFun (View.write_whole_univ (Val := Elt F) (cc0_scratch4 : Ref sig .scVector) g4 _) _
  sl_for (inv1 (F := F) d L (cap m d) (noBase (rowFin L h1)) (rowOf (I1 m d) (rowFin L h1)) (rowOf (W1 m d) (rowFin L h1))) $$ [Hs0' Hs2' Hs5' Hs6' Hs8']
  case region =>
    intro k _
    exact trip1 d L h1 (cap m d) _ _ (fun i => hI _) _ _ w5 k
  · unfold inv1
    isplitl [Hs0']; · iexact Hs0'
    isplitl [Hs2']; · iexact Hs2'
    isplitl [Hs5']
    · iexists _
      isplitr
      swap
      · iexact Hs5'
      ipureintro
      exact table_zero (F := F) noBase (rowFin L h1) (rowOf (I1 m d) (rowFin L h1)) rfl
    isplitl [Hs6']
    · iexists _
      isplitr
      swap
      · iexact Hs6'
      ipureintro; intro i hi; exact absurd hi (Nat.not_lt_zero _)
    iexists _
    isplitr
    swap
    · iexact Hs8'
    ipureintro; intro i hi; exact absurd hi (Nat.not_lt_zero _)
  iintro %_ HI
  unfold inv1
  icases HI with ⟨Hs0', Hs2', ⟨%t, %ht, Hs5'⟩, ⟨%p, %hp, Hs6'⟩, ⟨%q, %hq, Hs8'⟩⟩
  have ht' : Counts (firstBase (I1 m d) (rowFin L h1)) (rowOf (I2 m d) (rowFin L h1)) (16 * 0) t := fun j => by
    rw [ht j]
    show BitVec.ofNat 32 (0 + seen _ 2048 _) = BitVec.ofNat 32 (seen _ 2048 _ + seen _ 0 _)
    rw [Nat.zero_add, seen_zero, Nat.add_zero]
  have hp' : p = rowOf (R1 m d) (rowFin L h1) := funext fun i => hp i (i 0).isLt
  have hq' : q = rowOf (R3 m d) (rowFin L h1) := funext fun i => hq i (i 0).isLt
  subst hp' hq'
  sl_exec
  sl_for (inv2 (F := F) d L (cap m d) (firstBase (I1 m d) (rowFin L h1)) (rowOf (I2 m d) (rowFin L h1)) (rowOf (W2 m d) (rowFin L h1))) $$ [Hs1' Hs3' Hs5' Hs7' Hs9']
  case region =>
    intro k _
    exact trip2 d L h1 (cap m d) _ _ (fun i => hI' _) _ _ w5 k
  · unfold inv2
    isplitl [Hs1']; · iexact Hs1'
    isplitl [Hs3']; · iexact Hs3'
    isplitl [Hs5']
    · iexists _
      isplitr
      swap
      · iexact Hs5'
      ipureintro
      exact ht'
    isplitl [Hs7']
    · iexists _
      isplitr
      swap
      · iexact Hs7'
      ipureintro; intro i hi; exact absurd hi (Nat.not_lt_zero _)
    iexists _
    isplitr
    swap
    · iexact Hs9'
    ipureintro; intro i hi; exact absurd hi (Nat.not_lt_zero _)
  iintro %_ HI
  unfold inv2
  icases HI with ⟨Hs1', Hs3', ⟨%t2, %ht2, Hs5'⟩, ⟨%p2, %hp2, Hs7'⟩, ⟨%q2, %hq2, Hs9'⟩⟩
  have hp2' : p2 = rowOf (R2 m d) (rowFin L h1) := funext fun i => hp2 i (i 0).isLt
  have hq2' : q2 = rowOf (R4 m d) (rowFin L h1) := funext fun i => hq2 i (i 0).isLt
  subst hp2' hq2'
  sl_exec (disch := exact View.amount_pos _ _ (show 0 < S2048.numel by decide))
  sl_step
  isplitl [Hi1' Hi2' Hw1' Hw2' Hcp' Hp1' Hp2' Hc1' Hc2']
  · isplitl [Hi1' Hi2' Hw1' Hw2' Hcp']
    · isplitl [Hi1']; · iapply (Entails.of_eq (pts_main_arg0 (F := F) d L h1 _)); iexact Hi1'
      isplitl [Hi2']; · iapply (Entails.of_eq (pts_main_arg1 (F := F) d L h1 _)); iexact Hi2'
      isplitl [Hw1']; · iapply (Entails.of_eq (pts_main_arg2 (F := F) d L h1 _)); iexact Hw1'
      isplitl [Hw2']; · iapply (Entails.of_eq (pts_main_arg3 (F := F) d L h1 _)); iexact Hw2'
      iexact Hcp'
    isplitl [Hp1']; · iapply (Entails.of_eq (out_main_v1_0 (F := F) d L h1 _ _ (R1 m d) rfl)); iexact Hp1'
    isplitl [Hp2']; · iapply (Entails.of_eq (out_main_v1_1 (F := F) d L h1 _ _ (R2 m d) rfl)); iexact Hp2'
    isplitl [Hc1']; · iapply (Entails.of_eq (out_main_v1_2 (F := F) d L h1 _ _ (R3 m d) rfl)); iexact Hc1'
    iapply (Entails.of_eq (out_main_v1_3 (F := F) d L h1 _ _ (R4 m d) rfl)); iexact Hc2'
  isplitl [Hs0' Hs1' Hs2' Hs3' Hs4' Hs5' Hs6' Hs7' Hs8' Hs9' Hbufs]
  · isplitl [Hs0']; · iexists _; iexact Hs0'
    isplitl [Hs1']; · iexists _; iexact Hs1'
    isplitl [Hs2']; · iexists _; iexact Hs2'
    isplitl [Hs3']; · iexists _; iexact Hs3'
    isplitl [Hs4']; · iexists _; iexact Hs4'
    isplitl [Hs5']; · iexists _; iexact Hs5'
    isplitl [Hs6']; · iexists _; iexact Hs6'
    isplitl [Hs7']; · iexists _; iexact Hs7'
    isplitl [Hs8']; · iexists _; iexact Hs8'
    isplitl [Hs9']; · iexists _; iexact Hs9'
    iexact Hbufs
  isplitl [Hm0 Hm1 Hm2 Hm3 Hm4 Hm5 Hm6 Hm7 Hm8 Hsems]
  · isplitl [Hm0]; · iexact Hm0
    isplitl [Hm1]; · iexact Hm1
    isplitl [Hm2]; · iexact Hm2
    isplitl [Hm3]; · iexact Hm3
    isplitl [Hm4]; · iexact Hm4
    isplitl [Hm5]; · iexact Hm5
    isplitl [Hm6]; · iexact Hm6
    isplitl [Hm7]; · iexact Hm7
    isplitl [Hm8]; · iexact Hm8
    iexact Hsems
  iexists _; isplitr
  swap; · iexact HO
  ipureintro; intro p _
  rcases p.2 with _ | q
  · exact .inr (.inl rfl)
  · exact .inr (.inr (congrArg some (Subsingleton.elim q 0)))

end Tile

end Cert.Proof.Priority

end
-- ==== Proof.Launch.lean ====
module

public import proofs.«01_k».proof.Proof.Tile
public import Idealize.ShloMosaic.Lib.Pipeline.Frame

/-! A subcore with a row and one without, the task as the launch asks for it, and the whole program's run. -/

@[expose] public section

noncomputable section

namespace Cert.Proof.Priority

open Cert.KernelIdeal Cert.KernelIdeal.Gen
open Idealize.ShloMosaic
open Idealize.ShloMosaic.SparseCore (S V)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

section Tasks

variable (m : (ℓ : Loc nD τ sig) → Buf (Elt F) ℓ) [FloatOps F] (d : Dev nD) (L : grid0.Coords)

/-- Every index names one of the 64 experts. -/
def InRange (m : (ℓ : Loc nD τ sig) → Buf (Elt F) ℓ) : Prop := ∀ d, (∀ j, (I1 m d j).toNat < 64) ∧ ∀ j, (I2 m d j).toNat < 64

/-- A subcore without a row hands back what it was handed. -/
theorem tile_idle (h1 : ¬ k0_cond1 L = 1#1) (O : CellTallies nD τ sig (HIx 1)) (W : Waits sig (HIx 1)) :
    iprop(levAts (K (F := F)).L (K (F := F)).lev ∗ emp ∗ rowIn m d (L 0).val (L 1).val
        ∗ scopedBufs (me d L) ∗ scopedSems0 (me d L) ∗ owes (me d L) O W)
      ⊢ wp frame (wpE (defs₀ (F := F)) 𝒱₀ (me d L) none) Set.univ
          (cc0_sck (F := F) L (Memref.whole main_arg0_scv) (Memref.isWhole_whole _) (Memref.whole main_arg1_scv) (Memref.isWhole_whole _) (Memref.whole main_arg2_scv) (Memref.isWhole_whole _) (Memref.whole main_arg3_scv) (Memref.isWhole_whole _) (Memref.whole main_v0_scv) (Memref.isWhole_whole _) (Memref.whole main_v1_0_scv) (Memref.isWhole_whole _) (Memref.whole main_v1_1_scv) (Memref.isWhole_whole _) (Memref.whole main_v1_2_scv) (Memref.isWhole_whole _) (Memref.whole main_v1_3_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scoped0 cc0_scoped1 cc0_scoped2 cc0_scoped3 cc0_scoped4 cc0_scoped5 cc0_scoped6 cc0_scoped7 cc0_scoped8)
          fun _ => iprop(rowOut m d (L 0).val (L 1).val ∗ scopedBufs (me d L) ∗ scopedSems0 (me d L)
            ∗ ∃ W', ⌜∀ p ∈ W', p ∈ W ∨ p.2 = none ∨ p.2 = some (0 : Fin 1)⌝ ∗ owes (me d L) O W') := by
  have he : ∀ j : S4x2048.Idx, j ∉ rowSet (2 * (L 1).val + (L 0).val) := fun j hj => by
    have hj0 : (j 0).val < 4 := (j 0).isLt
    rw [mem_rowSet] at hj
    exact h1 ((cond_iff L).mpr (show 2 * (L 1).val + (L 0).val < 4 by omega))
  have e : (rowIn m d (L 0).val (L 1).val : sProp 𝕄) = rowOut m d (L 0).val (L 1).val := by
    unfold rowIn rowOut rowPts
    rw [pointsTo_congr (ℓ := p1L d) (f := m (p1L d)) (g := R1 m d) fun j hj => absurd hj (he j),
      pointsTo_congr (ℓ := p2L d) (f := m (p2L d)) (g := R2 m d) fun j hj => absurd hj (he j),
      pointsTo_congr (ℓ := c1L d) (f := m (c1L d)) (g := R3 m d) fun j hj => absurd hj (he j),
      pointsTo_congr (ℓ := c2L d) (f := m (c2L d)) (g := R4 m d) fun j hj => absurd hj (he j)]
  rw [e]
  iintro ⟨#Hlv, -, Hr, Hb, Hs, HO⟩
  sl_unfold [cc0_sck]
  sl_exec
  sl_step
  isplitl [Hr]; · iexact Hr
  isplitl [Hb]; · iexact Hb
  isplitl [Hs]; · iexact Hs
  iexists W; isplitr
  swap; · iexact HO
  ipureintro; intro p hp
  exact .inl hp

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 () = SparseCore.onTile hcore0 hsub0 (fun c s => cc0_sck (coordsV c s) (Memref.whole main_arg0_scv) (Memref.isWhole_whole _) (Memref.whole main_arg1_scv) (Memref.isWhole_whole _) (Memref.whole main_arg2_scv) (Memref.isWhole_whole _) (Memref.whole main_arg3_scv) (Memref.isWhole_whole _) (Memref.whole main_v0_scv) (Memref.isWhole_whole _) (Memref.whole main_v1_0_scv) (Memref.isWhole_whole _) (Memref.whole main_v1_1_scv) (Memref.isWhole_whole _) (Memref.whole main_v1_2_scv) (Memref.isWhole_whole _) (Memref.whole main_v1_3_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scoped0 cc0_scoped1 cc0_scoped2 cc0_scoped3 cc0_scoped4 cc0_scoped5 cc0_scoped6 cc0_scoped7 cc0_scoped8) ⟨⟩ c s := rfl

theorem tileObl (hI : InRange m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  by_cases h1 : k0_cond1 (coordsV ⟨_, hci.1⟩ ⟨_, hci.2⟩) = 1#1
  · exact tile_body m d (coordsV ⟨_, hci.1⟩ ⟨_, hci.2⟩) (hI d).1 (hI d).2 h1 O W hO
  · exact tile_idle m d (coordsV ⟨_, hci.1⟩ ⟨_, hci.2⟩) h1 O W

end Tasks

section Launch

variable (m : (ℓ : Loc nD τ sig) → Buf (Elt F) ℓ) (ρ : Dev nD → PrngReg)

/-! ## Thirty-two rows make an array -/

/-- An array held row by row, a row to a subcore, is the array held whole. -/
theorem rows_whole {ℓ : Loc nD τ sig} (q : PosShare TreeShare) (f : Buf (Elt F) ℓ) (A : ℕ → Finset (Idx ℓ))
    (hd : ∀ w w', w ≠ w' → Disjoint (A w) (A w')) (hc : ∀ j, ∃ w, w < 32 ∧ j ∈ A w) :
    (bigSep Finset.univ fun c : Fin 2 => bigSep Finset.univ fun i : Fin 16 => (ℓ ↦[A (2 * i.val + c.val)]{q} f : sProp 𝕄)) = ℓ ↦{q} f := by
  rw [bigSep_congr fun c _ => (pointsTo_biUnion (Finset.univ : Finset (Fin 16)) (fun i : Fin 16 => A (2 * i.val + c.val))
      fun i _ i' _ h => hd _ _ fun e => h (Fin.ext (by omega))).symm,
    ← pointsTo_biUnion (Finset.univ : Finset (Fin 2)) (fun c : Fin 2 => (Finset.univ : Finset (Fin 16)).biUnion fun i : Fin 16 => A (2 * i.val + c.val))
      fun c _ c' _ h => (Finset.disjoint_biUnion_left _ _ _).mpr fun i _ => (Finset.disjoint_biUnion_right _ _ _).mpr fun i' _ =>
        hd _ _ fun e => h (Fin.ext (by have := c.isLt; have := c'.isLt; omega))]
  congr 1
  ext j
  simp only [Finset.mem_biUnion, Finset.mem_univ, true_and, iff_true]
  obtain ⟨w, hw, hj⟩ := hc j
  refine ⟨⟨w % 2, Nat.mod_lt _ (by decide)⟩, ⟨w / 2, by omega⟩, ?_⟩
  rwa [show 2 * (w / 2) + w % 2 = w from Nat.div_add_mod w 2]

theorem rowSet_disjoint (w w' : ℕ) (h : w ≠ w') : Disjoint (rowSet w) (rowSet w') :=
  Finset.disjoint_left.mpr fun j h1 h2 => h ((mem_rowSet.mp h1).symm.trans (mem_rowSet.mp h2))
theorem rowSet_cover (j : S4x2048.Idx) : ∃ w, w < 32 ∧ j ∈ rowSet w :=
  ⟨(j 0).val, by have : (j 0).val < 4 := (j 0).isLt; omega, mem_rowSet.mpr rfl⟩

/-- The capacity's vector held share by share is held whole. -/
theorem shares_whole (d : Dev nD) (f : Buf (Elt F) (cpL d)) :
    (bigSep Finset.univ fun c : Fin 2 => bigSep Finset.univ fun i : Fin 16 => (cpL d ↦{capShare c.val i.val} f : sProp 𝕄)) = cpL d ↦{fullShare} f := by
  rw [ShareLeaves.pointsTo_leaves Finset.univ f 1 fullShare]
  refine bigSep_congr fun c _ => ?_
  have ec : (⟨c.val % 2, Nat.mod_lt _ (by decide)⟩ : Fin (2 ^ 1)) = c := Fin.ext (Nat.mod_eq_of_lt c.isLt)
  rw [ShareLeaves.pointsTo_leaves Finset.univ f 4 (ShareLeaves.leaf 1 fullShare c)]
  refine bigSep_congr fun i _ => ?_
  have ei : (⟨i.val % 16, Nat.mod_lt _ (by decide)⟩ : Fin (2 ^ 4)) = i := Fin.ext (Nat.mod_eq_of_lt i.isLt)
  show (cpL d ↦{capShare c.val i.val} f : sProp 𝕄) = _
  unfold capShare
  rw [ec, ei]

/-- The nine arrays of the call, the results at `f1`, `f2`, `f3`, `f4`. -/
abbrev arrPts (d : Dev nD) (f1 : Buf (Elt F) (p1L d)) (f2 : Buf (Elt F) (p2L d)) (f3 : Buf (Elt F) (c1L d)) (f4 : Buf (Elt F) (c2L d)) : sProp 𝕄 :=
  iprop(((i1L d ↦{fullShare} m (i1L d)) ∗ (i2L d ↦{fullShare} m (i2L d)) ∗ (w1L d ↦{fullShare} m (w1L d)) ∗ (w2L d ↦{fullShare} m (w2L d))
      ∗ (cpL d ↦{fullShare} (fun _ => cap m d : S16.Idx → BitVec 32)))
    ∗ ((p1L d ↦{fullShare} f1) ∗ (p2L d ↦{fullShare} f2) ∗ (c1L d ↦{fullShare} f3) ∗ (c2L d ↦{fullShare} f4)))

theorem rows_eq (d : Dev nD) (f1 : Buf (Elt F) (p1L d)) (f2 : Buf (Elt F) (p2L d)) (f3 : Buf (Elt F) (c1L d)) (f4 : Buf (Elt F) (c2L d)) :
    (bigSep Finset.univ fun c : Fin 2 => bigSep Finset.univ fun i : Fin 16 => rowPts m d c.val i.val f1 f2 f3 f4) = arrPts m d f1 f2 f3 f4 := by
  unfold rowPts arrPts
  simp only [bigSep_sep']
  rw [shares_whole, rows_whole (ℓ := i1L d) fullShare _ rowSet rowSet_disjoint rowSet_cover, rows_whole (ℓ := i2L d) fullShare _ rowSet rowSet_disjoint rowSet_cover,
    rows_whole (ℓ := w1L d) fullShare _ rowSet rowSet_disjoint rowSet_cover, rows_whole (ℓ := w2L d) fullShare _ rowSet rowSet_disjoint rowSet_cover,
    rows_whole (ℓ := p1L d) fullShare _ rowSet rowSet_disjoint rowSet_cover, rows_whole (ℓ := p2L d) fullShare _ rowSet rowSet_disjoint rowSet_cover,
    rows_whole (ℓ := c1L d) fullShare _ rowSet rowSet_disjoint rowSet_cover, rows_whole (ℓ := c2L d) fullShare _ rowSet rowSet_disjoint rowSet_cover]

variable [FloatOps F]

theorem st0_eq (d : Dev nD) :
    (bigSep Finset.univ fun c : Fin ((K (F := F)).nCore 0) => (P m).st 0 d c) = arrPts m d (m (p1L d)) (m (p2L d)) (m (c1L d)) (m (c2L d)) :=
  rows_eq m d _ _ _ _
theorem dn0_eq (d : Dev nD) :
    (bigSep Finset.univ fun c : Fin ((K (F := F)).nCore 0) => (P m).dn 0 d c) = arrPts m d (R1 m d) (R2 m d) (R3 m d) (R4 m d) :=
  rows_eq m d _ _ _ _

/-- A core deals its subcores their rows and gathers them. -/
theorem vecSplit : (K (F := F)).VecSplit' (P m) 0 := by
  intro d c
  refine (show iprop((P m).st 0 d c) ⊢ _ from ?_)
  rw [show (P m).st 0 d c = (bigSep Finset.univ fun i : Fin ((K (F := F)).nSub 0) => (P m).go 0 d c i) from rfl,
    show (P m).dn 0 d c = (bigSep Finset.univ fun i : Fin ((K (F := F)).nSub 0) => (P m).td 0 d c i) from rfl]
  iintro H; imodintro
  isplitl [H]; · iexact H
  iintro H; iexact H

/-! ## The ghost state at the launch -/

def u₀ : UU := (initOf (K (F := F)).hsCells (K (F := F)).hsToks, 1)

omit [FloatOps F] in
theorem bigSep_emps {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  have hx : (bigSep Finset.univ fun thr : Thread nD τ => bigSep Finset.univ fun q : Fin 1 => (P (F := F) m).x q thr) = iprop(emp) :=
    (bigSep_congr fun _ _ => bigSep_univ_of_subsingleton (0 : Fin 1)).trans (bigSep_emps _)
  unfold u₀
  rw [hx, bigSep_emps]
  iintro Hu
  ihave H := (ownU_pair (initOf (K (F := F)).hsCells (K (F := F)).hsToks) (1 : Counters)) $$ Hu
  icases H with ⟨HH, -⟩
  imodintro
  isplitl [HH]; · iexact HH
  isplitr <;> iempintro

/-! ## The program on the TensorCore -/

abbrev opCap : HloOp τ sig (Elt F) :=
  StableHlo.unary main_arg4 main_v0 (broadcastInDim S16 ![] bcast_S_S16 : (⟨S_, .i32⟩ : BufTy).Contents (Elt F) → (⟨S16, .i32⟩ : BufTy).Contents (Elt F))

/-- The two concatenations, as functions of their operands. -/
def cat4 (a b c e : S4x2048x1.Idx → F .f32) : S4x2048x4.Idx → F .f32 :=
  concatenate S4x2048x4 2 [⟨S4x2048x1, a⟩, ⟨S4x2048x1, b⟩, ⟨S4x2048x1, c⟩, ⟨S4x2048x1, e⟩] concatenates_S4x2048x1_S4x2048x1_S4x2048x1_S4x2048x1_S4x2048x4_d2
def cat2 (a b : S4x2048x1.Idx → F .f32) : S4x2048x2.Idx → F .f32 :=
  concatenate S4x2048x2 2 [⟨S4x2048x1, a⟩, ⟨S4x2048x1, b⟩] concatenates_S4x2048x1_S4x2048x1_S4x2048x2_d2
/-- A trailing axis of length one. -/
abbrev col (a : S4x2048.Idx → F .f32) : S4x2048x1.Idx → F .f32 := broadcastInDim S4x2048x1 ![0, 1] bcast_S4x2048_S4x2048x1_0_1 a

/-- The operations after the call. -/
abbrev opsAfter : List (HloOp τ sig (Elt F)) :=
  [ StableHlo.unary main_arg0 main_v2 (sitofp .f32 : (⟨S4x2048, .i32⟩ : BufTy).Contents (Elt F) → (⟨S4x2048, .f32⟩ : BufTy).Contents (Elt F)),
    StableHlo.unary main_arg1 main_v3 (sitofp .f32 : (⟨S4x2048, .i32⟩ : BufTy).Contents (Elt F) → (⟨S4x2048, .f32⟩ : BufTy).Contents (Elt F)),
    StableHlo.unary main_v2 main_v4 (col (F := F)), StableHlo.unary main_v3 main_v5 (col (F := F)),
    StableHlo.unary main_v1_0 main_v6 (col (F := F)), StableHlo.unary main_v1_1 main_v7 (col (F := F)),
    StableHlo.nary ![main_v4, main_v5, main_v6, main_v7] main_v8 (fun u => cat4 (F := F) (u 0) (u 1) (u 2) (u 3)),
    StableHlo.unary main_v1_2 main_v9 (col (F := F)), StableHlo.unary main_v1_3 main_v10 (col (F := F)),
    StableHlo.binary main_v9 main_v10 main_v11 (cat2 (F := F)) ]

theorem main_eq (d : Dev nD) : main (F := F) d = (do hlo rfl opCap (fun _ => .ret ⟨⟩); sc.run d 0; StableHlo.seq opsAfter) := rfl

/-- The memory at the launch, before the call, after the call, and at the end. -/
def V0 (d : Dev nD) : Valuation τ sig (Elt F) := fun b => m (d, b)
def V1 (d : Dev nD) : Valuation τ sig (Elt F) := (opCap (F := F)).result (V0 m d)
abbrev dr (b : Ref sig .tc) : DevRef τ sig := Proc.devRef .tc b
def V2 (d : Dev nD) : Valuation τ sig (Elt F) :=
  Function.update (Function.update (Function.update (Function.update (V1 m d) (dr main_v1_0) (R1 m d)) (dr main_v1_1) (R2 m d)) (dr main_v1_2) (R3 m d))
    (dr main_v1_3) (R4 m d)
def V3 (d : Dev nD) : Valuation τ sig (Elt F) := StableHlo.after opsAfter (V2 m d)

/-- The call's nine arrays. -/
abbrev callRefs : List (Ref sig .tc) := [main_arg0, main_arg1, main_arg2, main_arg3, main_v0, main_v1_0, main_v1_1, main_v1_2, main_v1_3]
/-- The arguments and results. -/
abbrev endRefs : List (Ref sig .tc) := [main_v8, main_v11, main_arg0, main_arg1, main_arg2, main_arg3, main_arg4]

omit [FloatOps F] in
theorem held_list (d : Dev nD) (l : List (Ref sig .tc)) (hn : l.Nodup) (hu : ∀ r ∈ l, ¬ (dr r).isScoped) (W : Valuation τ sig (Elt F)) :
    (StableHlo.held (SparseCore.T d) (Pipeline.ucRefs τ sig) W : sProp 𝕄)
      = (l.map dr).foldr (fun b R => iprop((((d, b) : Loc nD τ sig) ↦{fullShare} W b) ∗ R))
          (bigSep (Pipeline.ucRefs τ sig \ (l.map dr).toFinset) fun b => ((d, b) : Loc nD τ sig) ↦{fullShare} W b) := by
  unfold StableHlo.held
  refine bigSep_list (fun b => (((d, b) : Loc nD τ sig) ↦{fullShare} W b : sProp 𝕄)) (l.map dr) _ (hn.map (f := dr) (Proc.devRef_injective (τ := τ) (sig := sig) .tc)) ?_
  intro b hb
  obtain ⟨r, hr, rfl⟩ := List.mem_map.mp hb
  exact Finset.mem_filter.mpr ⟨StableHlo.devRef_mem_tcRefs r, hu r hr⟩

/-! ## The memory at the end -/

theorem V1_of_ne (d : Dev nD) (r : Ref sig .tc) (h : r ≠ main_v0) : V1 m d (dr r) = m ((SparseCore.T d).loc r) :=
  StableHlo.unary_result_ne _ _ _ _ _ _ h
theorem V1_cap (d : Dev nD) : V1 m d (dr main_v0) = (fun _ => cap m d : S16.Idx → BitVec 32) :=
  (StableHlo.unary_result _ _ _ _ _ _).trans (funext fun _ => congrArg (m ((SparseCore.T d).loc main_arg4) : S_.Idx → BitVec 32) (funext fun a => a.elim0))

theorem dr_ne {a b : Ref sig .tc} (h : a ≠ b) : dr a ≠ dr b := fun e => h (Proc.devRef_injective (τ := τ) (sig := sig) .tc e)

theorem V2_of_ne (d : Dev nD) (r : Ref sig .tc) (h0 : r ≠ main_v1_0) (h1 : r ≠ main_v1_1) (h2 : r ≠ main_v1_2) (h3 : r ≠ main_v1_3) :
    V2 m d (dr r) = V1 m d (dr r) := by
  unfold V2
  rw [Function.update_of_ne (dr_ne h3), Function.update_of_ne (dr_ne h2), Function.update_of_ne (dr_ne h1), Function.update_of_ne (dr_ne h0)]
theorem V2_0 (d : Dev nD) : V2 m d (dr main_v1_0) = R1 m d := by
  unfold V2
  rw [Function.update_of_ne (dr_ne (by decide)), Function.update_of_ne (dr_ne (by decide)), Function.update_of_ne (dr_ne (by decide)), Function.update_self]
theorem V2_1 (d : Dev nD) : V2 m d (dr main_v1_1) = R2 m d := by
  unfold V2
  rw [Function.update_of_ne (dr_ne (by decide)), Function.update_of_ne (dr_ne (by decide)), Function.update_self]
theorem V2_2 (d : Dev nD) : V2 m d (dr main_v1_2) = R3 m d := by
  unfold V2
  rw [Function.update_of_ne (dr_ne (by decide)), Function.update_self]
theorem V2_3 (d : Dev nD) : V2 m d (dr main_v1_3) = R4 m d := by
  unfold V2
  rw [Function.update_self]

/-- An argument is as at the launch. -/
theorem V2_arg (d : Dev nD) (r : Ref sig .tc) (h : r ∈ ([main_arg0, main_arg1, main_arg2, main_arg3, main_arg4] : List (Ref sig .tc))) :
    V2 m d (dr r) = m ((SparseCore.T d).loc r) := by
  have key : ∀ r ∈ ([main_arg0, main_arg1, main_arg2, main_arg3, main_arg4] : List (Ref sig .tc)),
      r ≠ main_v1_0 ∧ r ≠ main_v1_1 ∧ r ≠ main_v1_2 ∧ r ≠ main_v1_3 ∧ r ≠ main_v0 := by decide
  obtain ⟨h0, h1, h2, h3, h4⟩ := key r h
  rw [V2_of_ne m d r h0 h1 h2 h3, V1_of_ne m d r h4]

/-- The arrays the operations after the call write. -/
abbrev outRefs : List (Ref sig .tc) := [main_v2, main_v3, main_v4, main_v5, main_v6, main_v7, main_v8, main_v9, main_v10, main_v11]

theorem V3_arg (d : Dev nD) (r : Ref sig .tc) (h : r ∈ ([main_arg0, main_arg1, main_arg2, main_arg3, main_arg4] : List (Ref sig .tc))) :
    V3 m d (dr r) = m ((SparseCore.T d).loc r) := by
  have key : ∀ r ∈ ([main_arg0, main_arg1, main_arg2, main_arg3, main_arg4] : List (Ref sig .tc)), r ∉ outRefs := by decide
  rw [← V2_arg m d r h]
  exact StableHlo.after_of_writes_sub (W := outRefs) opsAfter (V2 m d) (StableHlo.forall_writes_sub_of_map rfl) (key r h)

/-- The two results. -/
def out1 (d : Dev nD) : S4x2048x4.Idx → F .f32 :=
  cat4 (col (sitofp .f32 (I1 m d))) (col (sitofp .f32 (I2 m d))) (col (R1 m d)) (col (R2 m d))
def out2 (d : Dev nD) : S4x2048x2.Idx → F .f32 := cat2 (col (R3 m d)) (col (R4 m d))

omit m in
theorem after_out1 (V : Valuation τ sig (Elt F)) : StableHlo.after opsAfter V (Proc.devRef .tc main_v8)
    = cat4 (F := F) (col (sitofp .f32 (V (dr main_arg0) : S4x2048.Idx → BitVec 32))) (col (sitofp .f32 (V (dr main_arg1) : S4x2048.Idx → BitVec 32)))
        (col (V (dr main_v1_0))) (col (V (dr main_v1_1))) := by
  after_results_simp <;> rfl
theorem V3_out1 (d : Dev nD) : V3 m d (dr main_v8) = out1 m d := by
  refine (after_out1 (V2 m d)).trans ?_
  rw [V2_arg m d main_arg0 (by decide), V2_arg m d main_arg1 (by decide), V2_0, V2_1]
  rfl
theorem V3_out2 (d : Dev nD) : V3 m d (dr main_v11) = out2 m d := by
  have e2 := V2_2 m d
  have e3 := V2_3 m d
  unfold V3 out2
  generalize V2 m d = V at e2 e3 ⊢
  have h : StableHlo.after opsAfter V (Proc.devRef .tc main_v11) = cat2 (col (V (dr main_v1_2))) (col (V (dr main_v1_3))) := by
    after_results_simp <;> rfl
  exact h.trans (by rw [e2, e3])

/-! ## The run -/

/-- What is left of the launch's memory beside the call's arrays, and beside the arguments and results. -/
abbrev restPts (l : List (Ref sig .tc)) (d : Dev nD) (W : Valuation τ sig (Elt F)) : sProp 𝕄 :=
  bigSep (Pipeline.ucRefs τ sig \ (l.map dr).toFinset) fun b => ((d, b) : Loc nD τ sig) ↦{fullShare} W b

theorem held_call (d : Dev nD) (W : Valuation τ sig (Elt F)) :
    (StableHlo.held (SparseCore.T d) (Pipeline.ucRefs τ sig) W : sProp 𝕄)
      = iprop((i1L d ↦{fullShare} W (dr main_arg0)) ∗ (i2L d ↦{fullShare} W (dr main_arg1)) ∗ (w1L d ↦{fullShare} W (dr main_arg2)) ∗ (w2L d ↦{fullShare} W (dr main_arg3))
        ∗ (cpL d ↦{fullShare} W (dr main_v0)) ∗ (p1L d ↦{fullShare} W (dr main_v1_0)) ∗ (p2L d ↦{fullShare} W (dr main_v1_1))
        ∗ (c1L d ↦{fullShare} W (dr main_v1_2)) ∗ (c2L d ↦{fullShare} W (dr main_v1_3)) ∗ restPts callRefs d W) := by
  refine (held_list d callRefs (by decide) (by decide) W).trans ?_
  unfold restPts
  generalize bigSep (Pipeline.ucRefs τ sig \ (callRefs.map dr).toFinset) (fun b => (((d, b) : Loc nD τ sig) ↦{fullShare} W b : sProp 𝕄)) = R
  rfl

theorem held_end (d : Dev nD) (W : Valuation τ sig (Elt F)) :
    (StableHlo.held (SparseCore.T d) (Pipeline.ucRefs τ sig) W : sProp 𝕄)
      = iprop(((SparseCore.T d).loc main_v8 ↦{fullShare} W (dr main_v8)) ∗ ((SparseCore.T d).loc main_v11 ↦{fullShare} W (dr main_v11))
        ∗ (i1L d ↦{fullShare} W (dr main_arg0)) ∗ (i2L d ↦{fullShare} W (dr main_arg1)) ∗ (w1L d ↦{fullShare} W (dr main_arg2)) ∗ (w2L d ↦{fullShare} W (dr main_arg3))
        ∗ ((SparseCore.T d).loc main_arg4 ↦{fullShare} W (dr main_arg4)) ∗ restPts endRefs d W) := by
  refine (held_list d endRefs (by decide) (by decide) W).trans ?_
  unfold restPts
  generalize bigSep (Pipeline.ucRefs τ sig \ (endRefs.map dr).toFinset) (fun b => (((d, b) : Loc nD τ sig) ↦{fullShare} W b : sProp 𝕄)) = R
  rfl

theorem held_before (d : Dev nD) :
    (StableHlo.held (SparseCore.T d) (Pipeline.ucRefs τ sig) ((opCap (F := F)).result (V0 m d)) : sProp 𝕄)
      ⊢ iprop(arrPts m d (m (p1L d)) (m (p2L d)) (m (c1L d)) (m (c2L d)) ∗ restPts callRefs d (V1 m d)) := by
  show (StableHlo.held (SparseCore.T d) (Pipeline.ucRefs τ sig) (V1 m d) : sProp 𝕄) ⊢ _
  rw [held_call, V1_cap, V1_of_ne m d main_arg0 (by decide), V1_of_ne m d main_arg1 (by decide), V1_of_ne m d main_arg2 (by decide), V1_of_ne m d main_arg3 (by decide),
    V1_of_ne m d main_v1_0 (by decide), V1_of_ne m d main_v1_1 (by decide), V1_of_ne m d main_v1_2 (by decide), V1_of_ne m d main_v1_3 (by decide)]
  iintro ⟨H0, H1, H2, H3, H4, H5, H6, H7, H8, HR⟩
  unfold arrPts
  isplitr [HR]; swap; · iexact HR
  isplitl [H0 H1 H2 H3 H4]
  · isplitl [H0]; · iexact H0
    isplitl [H1]; · iexact H1
    isplitl [H2]; · iexact H2
    isplitl [H3]; · iexact H3
    iexact H4
  isplitl [H5]; · iexact H5
  isplitl [H6]; · iexact H6
  isplitl [H7]; · iexact H7
  iexact H8

theorem held_after (d : Dev nD) :
    iprop(arrPts m d (R1 m d) (R2 m d) (R3 m d) (R4 m d) ∗ restPts callRefs d (V1 m d))
      ⊢ (StableHlo.held (SparseCore.T d) (Pipeline.ucRefs τ sig) (V2 m d) : sProp 𝕄) := by
  have hr : (restPts callRefs d (V1 m d) : sProp 𝕄) = restPts callRefs d (V2 m d) := by
    refine bigSep_congr fun b hb => ?_
    have hne : ∀ r ∈ callRefs, b ≠ dr r := fun r hr e =>
      (Finset.mem_sdiff.mp hb).2 (List.mem_toFinset.mpr (e ▸ List.mem_map.mpr ⟨r, hr, rfl⟩))
    unfold V2
    rw [Function.update_of_ne (hne main_v1_3 (by decide)), Function.update_of_ne (hne main_v1_2 (by decide)), Function.update_of_ne (hne main_v1_1 (by decide)),
      Function.update_of_ne (hne main_v1_0 (by decide))]
  rw [hr, held_call, V2_0, V2_1, V2_2, V2_3, V2_of_ne m d main_v0 (by decide) (by decide) (by decide) (by decide), V1_cap,
    V2_arg m d main_arg0 (by decide), V2_arg m d main_arg1 (by decide), V2_arg m d main_arg2 (by decide), V2_arg m d main_arg3 (by decide)]
  unfold arrPts
  iintro ⟨⟨⟨H0, H1, H2, H3, H4⟩, H5, H6, H7, H8⟩, HR⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact HR

/-- What the program leaves: the two results and the arguments as they were. -/
abbrev FIN (d : Dev nD) : sProp 𝕄 :=
  iprop(((SparseCore.T d).loc main_v8 ↦{fullShare} out1 m d) ∗ ((SparseCore.T d).loc main_v11 ↦{fullShare} out2 m d)
    ∗ (i1L d ↦{fullShare} m (i1L d)) ∗ (i2L d ↦{fullShare} m (i2L d)) ∗ (w1L d ↦{fullShare} m (w1L d)) ∗ (w2L d ↦{fullShare} m (w2L d))
    ∗ ((SparseCore.T d).loc main_arg4 ↦{fullShare} m ((SparseCore.T d).loc main_arg4)))

theorem held_fin (d : Dev nD) :
    (StableHlo.held (SparseCore.T d) (Pipeline.ucRefs τ sig) (StableHlo.after opsAfter (V2 m d)) : sProp 𝕄) ⊢ FIN m d := by
  show (StableHlo.held (SparseCore.T d) (Pipeline.ucRefs τ sig) (V3 m d) : sProp 𝕄) ⊢ FIN m d
  rw [held_end, V3_out1, V3_out2, V3_arg m d main_arg0 (by decide), V3_arg m d main_arg1 (by decide), V3_arg m d main_arg2 (by decide), V3_arg m d main_arg3 (by decide),
    V3_arg m d main_arg4 (by decide)]
  iintro ⟨H0, H1, H2, H3, H4, H5, H6, -⟩
  isplitl [H0]; · iexact H0
  isplitl [H1]; · iexact H1
  isplitl [H2]; · iexact H2
  isplitl [H3]; · iexact H3
  isplitl [H4]; · iexact H4
  isplitl [H5]; · iexact H5
  iexact H6

theorem opCap_sub : (opCap (F := F)).bufs ⊆ Pipeline.ucRefs τ sig := Pipeline.sub_ucRefs _ (StableHlo.unary_bufs_sub ..)
theorem opsAfter_sub : ∀ op ∈ (opsAfter : List (HloOp τ sig (Elt F))), op.bufs ⊆ Pipeline.ucRefs τ sig := by
  intro op h
  refine Pipeline.sub_ucRefs op ?_
  have hall : (opsAfter : List (HloOp τ sig (Elt F))).Forall fun op => op.bufs ⊆ StableHlo.tcRefs τ sig :=
    ⟨StableHlo.unary_bufs_sub .., StableHlo.unary_bufs_sub .., StableHlo.unary_bufs_sub .., StableHlo.unary_bufs_sub .., StableHlo.unary_bufs_sub ..,
      StableHlo.unary_bufs_sub .., StableHlo.nary_bufs_sub .., StableHlo.unary_bufs_sub .., StableHlo.unary_bufs_sub .., StableHlo.binary_bufs_sub ..⟩
  exact List.forall_iff_forall_mem.mp hall op h
theorem opsAfter_fresh : ∀ op ∈ (opsAfter : List (HloOp τ sig (Elt F))), op.fresh = ∅ := by
  intro op h
  have hall : (opsAfter : List (HloOp τ sig (Elt F))).Forall fun op => op.fresh = ∅ := ⟨rfl, rfl, rfl, rfl, rfl, rfl, rfl, rfl, rfl, rfl⟩
  exact List.forall_iff_forall_mem.mp hall op h

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [show (unscopedBufs d (fun b => m ((SparseCore.T d).loc b)) : sProp 𝕄) = StableHlo.held (SparseCore.T d) (Pipeline.ucRefs τ sig) (V0 m d) from
    Pipeline.unscopedBufs_held d (V0 m d)]
  rw [main_eq]
  simp only [wp_bind]
  iintro ⟨#Hctx, Hst, ⟨Hb, Hheld, Hts, -⟩, -⟩
  iapply (StableHlo.wp_hlo_within 𝒱 (SparseCore.T d) none Set.univ (op := opCap) (S := Pipeline.ucRefs τ sig) opCap_sub (V := V0 m d)) $$ [Hb Hheld]
  · isplitl [Hb] <;> iassumption
  iintro ⟨Hb, Hheld⟩
  rw [wp_ret]; imodintro
  ihave Hh := (held_before m d) $$ Hheld
  icases Hh with ⟨Harr, Hrest⟩
  iapply ((K (F := F)).wp_run (D (F := F)) 𝒱 (EH := EH) (P := P m) κ d 0) $$ [Hst Harr Hrest Hb Hts]
  isplitr; · iexact Hctx
  isplitl [Hst]; · iexact Hst
  isplitl [Harr]; · rw [st0_eq]; iexact Harr
  iintro ⟨Hst, Hdn⟩
  ihave Harr := (Entails.of_eq (dn0_eq m d)) $$ Hdn
  ihave Hheld := (held_after m d) $$ [Harr Hrest]
  · isplitl [Harr] <;> iassumption
  rw [show (StableHlo.seq opsAfter : Prog (TpuEff nD τ sig (Elt F) (SparseCore.Sig (LP (F := F)) 1) .tc) PUnit) = StableHlo.seq opsAfter >>= pure from (bind_pure _).symm]
  iapply (StableHlo.wp_seq 𝒱 none Set.univ d (Pipeline.ucRefs τ sig) pure opsAfter opsAfter_sub opsAfter_fresh (V2 m d)) $$ [Hb Hheld]
  · isplitl [Hb] <;> iassumption
  iintro ⟨Hb, Hheld⟩
  rw [wp_pure]; imodintro
  isplitl [Hst]; · iexact Hst
  isplitl [Hheld]; · iapply (held_fin m d); iexact Hheld
  isplitl [Hb] <;> iassumption

/-- The same, of the final memory. -/
def fq (d : Dev nD) (s' : Phys nD τ sig (Elt F)) : Prop :=
  s'.mem.mem ((SparseCore.T d).loc main_v8) = out1 m d ∧ s'.mem.mem ((SparseCore.T d).loc main_v11) = out2 m d
    ∧ s'.mem.mem (i1L d) = m (i1L d) ∧ s'.mem.mem (i2L d) = m (i2L d) ∧ s'.mem.mem (w1L d) = m (w1L d) ∧ s'.mem.mem (w2L d) = m (w2L d)
    ∧ s'.mem.mem ((SparseCore.T d).loc main_arg4) = m ((SparseCore.T d).loc main_arg4)

omit [FloatOps F] in
/-- An array held at contents holds them in memory. -/
theorem reads {ℓ : Loc nD τ sig} (f : Buf (Elt F) ℓ) (s' : Phys nD τ sig (Elt F)) (A : sProp 𝕄) :
    iprop(((ℓ ↦{fullShare} f) ∗ A) ∗ SI s') ⊢ (iprop(⌜s'.mem.mem ℓ = f⌝ ∗ A ∗ SI s') : sProp 𝕄) := by
  iintro ⟨⟨Hx, HA⟩, HSI⟩
  ihave H := (persistent_entails_right (SI_pointsTo_agree (st := s') (ℓ := ℓ) (I := Finset.univ) (q := fullShare) (f := f))) $$ [HSI Hx]
  · isplitl [HSI] <;> iassumption
  icases H with ⟨%hx, HSI, -⟩
  isplitr; · ipureintro; exact funext fun i => hx i (Finset.mem_univ i)
  isplitl [HA] <;> iassumption

theorem hfin (d : Dev nD) (s' : Phys nD τ sig (Elt F)) : iprop(FIN m d ∗ SI s') ⊢ (⌜fq m d s'⌝ : sProp 𝕄) := by
  iintro H
  ihave H := (reads _ s' _) $$ H
  icases H with ⟨%h0, H⟩
  ihave H := (reads _ s' _) $$ H
  icases H with ⟨%h1, H⟩
  ihave H := (reads _ s' _) $$ H
  icases H with ⟨%h2, H⟩
  ihave H := (reads _ s' _) $$ H
  icases H with ⟨%h3, H⟩
  ihave H := (reads _ s' _) $$ H
  icases H with ⟨%h4, H⟩
  ihave H := (reads _ s' _) $$ H
  icases H with ⟨%h5, H⟩
  icases H with ⟨Hx, HSI⟩
  ihave H := (SI_pointsTo_agree (st := s') (ℓ := (SparseCore.T d).loc main_arg4) (I := Finset.univ) (q := fullShare) (f := m ((SparseCore.T d).loc main_arg4))) $$ [HSI Hx]
  · isplitl [HSI] <;> iassumption
  icases H with %h6
  ipureintro; exact ⟨h0, h1, h2, h3, h4, h5, funext fun i => h6 i (Finset.mem_univ i)⟩

/-- What the run ends with, on every device, every counter at zero. -/
def QC : PUnit × MemSt nD τ sig (Elt F) → Prop := fun r => (∀ c : Dev nD,
    r.2.mem ((SparseCore.T c).loc main_v8) = out1 m c ∧ r.2.mem ((SparseCore.T c).loc main_v11) = out2 m c
      ∧ r.2.mem (i1L c) = m (i1L c) ∧ r.2.mem (i2L c) = m (i2L c) ∧ r.2.mem (w1L c) = m (w1L c) ∧ r.2.mem (w2L c) = m (w2L c)
      ∧ r.2.mem ((SparseCore.T c).loc main_arg4) = m ((SparseCore.T c).loc main_arg4))
  ∧ r.2.sem = fun _ => 0

theorem run_main [∀ e, Nonempty (Elt F e)] (hI : InRange m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) kfacts v₀
    (fun q hq => match q with | 0 => nomatch hq)
    (fun q _ => match q with | 0 => tileObl m hI)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Launch

end Cert.Proof.Priority

end
-- ==== Proof.Frames.lean ====
module

public import proofs.«01_k».proof.Defs
public import proofs.«01_k».proof.Proof.Launch
public import proofs.«01_k».proof.Proof.Gen.Kernel
public import proofs.«01_k».proof.Proof.Gen.Kernel.Skeleton
public import proofs.«01_k».proof.Proof.Gen.Pre_experts
public import proofs.«01_k».proof.Proof.Gen.ReferenceIdeal
public import proofs.«01_k».proof.Proof.Gen.ReferenceIdeal.Run
public import Idealize.ShloMosaic.Lib.ReduceAll
public import Idealize.ShloMosaic.Adequacy
public import Idealize.ShloMosaic.Init

/-! The precondition read as a bound on the expert numbers, and the frames of the three programs. -/

@[expose] public section

noncomputable section

namespace Cert.Proof.Priority

open Idealize.ShloMosaic Idealize.SL.Sem

local instance : Cert.Pre_experts.Facts := Cert.Pre_experts.Gen.facts
local instance : Cert.Kernel.Facts := Cert.Kernel.Gen.facts
local instance : Cert.KernelIdeal.Facts := Cert.KernelIdeal.Gen.facts
local instance : Cert.ReferenceIdeal.Facts := Cert.ReferenceIdeal.Gen.facts

/-- A word that is at least 0 and below 64 as a signed number is below 64 as an unsigned one. -/
theorem word_lt_64 {x : BitVec 32} (h0 : IntOp.cmpi .sge x 0#32 = 1#1) (h1 : IntOp.cmpi .slt x 64#32 = 1#1) : x.toNat < 64 := by
  have e0 := IntOp.cmpi_sge.1 h0
  have e1 := IntOp.cmpi_slt.1 h1
  rw [show (0#32 : BitVec 32).toInt = 0 from rfl, BitVec.toInt_eq_toNat_cond] at e0
  rw [show (64#32 : BitVec 32).toInt = 64 from rfl, BitVec.toInt_eq_toNat_cond] at e1
  have := x.isLt
  split at e0 <;> omega

/-- What the precondition says of the two arrays of expert numbers. -/
theorem experts_lt {F : FTy → Type} [FloatOps F] (a0 a1 : IVec Cert.Pre_experts.S4x2048 32)
    (a2 a3 : FVec F Cert.Pre_experts.S4x2048 .f32) (a4 : IVec Cert.Pre_experts.S_ 32)
    (h : (Cert.Pre_experts.fn (F := F) a0 a1 a2 a3 a4) = fun _ => 1#1) :
    (∀ j, (a0 j).toNat < 64) ∧ ∀ j, (a1 j).toNat < 64 := by
  haveI : Subsingleton Cert.Pre_experts.S_.Idx := ⟨fun a b => funext fun i => i.elim0⟩
  have e := congrFun h (fun i : Fin 0 => i.elim0)
  dsimp only [Cert.Pre_experts.fn] at e
  obtain ⟨e, d⟩ := IntOp.andi_eq_one.1 e
  obtain ⟨e, c⟩ := IntOp.andi_eq_one.1 e
  obtain ⟨a, b⟩ := IntOp.andi_eq_one.1 e
  exact ⟨fun j => word_lt_64 (Host.reduce_andi_all _ _ _ _ _ a j) (Host.reduce_andi_all _ _ _ _ _ b j),
    fun j => word_lt_64 (Host.reduce_andi_all _ _ _ _ _ c j) (Host.reduce_andi_all _ _ _ _ _ d j)⟩

theorem frame_kernel : Cert.quiescent_Kernel := fun m ρ hp =>
  (θ_run (Cert.KernelIdeal.defs (F := Bits)) _ _).mono
    (fun _ h => ⟨fun c => (h.1 c).2.2, h.2⟩)
    (run_main (F := Bits) m ρ fun d => experts_lt (F := Bits) _ _ _ _ _ (hp d))

theorem frame_kernelIdeal : Cert.quiescent_KernelIdeal := fun m ρ hp =>
  (θ_run (Cert.KernelIdeal.defs (F := Ideal)) _ _).mono
    (fun _ h => ⟨fun c => (h.1 c).2.2, h.2⟩)
    (run_main (F := Ideal) m ρ fun d => experts_lt (F := Ideal) _ _ _ _ _ (hp d))

theorem frame_reference : Cert.quiescent_ReferenceIdeal := fun m ρ _ =>
  (θ_run (Cert.ReferenceIdeal.defs (F := Ideal)) _ _).mono
    (fun r h => ⟨fun c => (h c).2.2, sem_eq_zero_of_no_sems (by decide) r.2⟩)
    (Cert.ReferenceIdeal.Value.run (F := Ideal) m ρ)

theorem frame_reference_pre : Cert.quiescent_ReferenceIdeal_pre_experts := fun m ρ _ => frame_reference m ρ trivial

end Cert.Proof.Priority

end
-- ==== Proof.Reference.lean ====
module

public import proofs.«01_k».proof.Proof.Launch
public import proofs.«01_k».proof.Proof.Gen.ReferenceIdeal
public import Idealize.ShloMosaic.Lib.Pointwise.Tactic
public import Idealize.ShloMosaic.Lib.Pointwise.Reshape
public import Idealize.ShloMosaic.Lib.Pointwise.Select
public import Idealize.ShloMosaic.Lib.Pointwise.IndexVar
public import Idealize.ShloMosaic.Lib.Pointwise.Sums
public import Idealize.ShloMosaic.PureOps.Reduce

/-! The reference read element by element: its running count of one-hot rows, less one, at the chosen expert, is the number of
earlier choices of that expert — what the kernel counts. -/

@[expose] public section

noncomputable section

namespace Cert.Proof.Priority

open Cert.ReferenceIdeal Cert.ReferenceIdeal.Gen
open Idealize.ShloMosaic

/-! ## Counting by a window sum -/

/-- A sum of zeros and ones over the first `n` numbers counts the ones. -/
theorem sum_marks (Q : ℕ → Prop) [DecidablePred Q] : ∀ (n : ℕ) (g : Fin n → BitVec 32),
    (∀ k, g k = if Q k.val then 1#32 else 0#32) →
    (List.finRange n).foldl (fun r k => IntOp.addi r (g k)) 0#32 = BitVec.ofNat 32 (Nat.count Q n)
  | 0, _, _ => rfl
  | n + 1, g, hg => by
    rw [List.finRange_succ_last, List.foldl_append, List.foldl_map,
      sum_marks Q n (fun k => g k.castSucc) (fun k => hg k.castSucc)]
    simp only [List.foldl_cons, List.foldl_nil, hg (Fin.last n), Fin.val_last, Nat.count_succ]
    by_cases h : Q n
    · simp only [h, if_true, IntOp.addi]
      rw [← BitVec.ofNat_add]
    · simp only [h, if_false, IntOp.addi]
      simp

/-- The window's positions that fall inside the operand are the ones up to the result's. -/
theorem count_window (Q : ℕ → Prop) [DecidablePred Q] (j : ℕ) (hj : j < 4096) :
    Nat.count (fun n => 4095 ≤ j + n ∧ Q (j + n - 4095)) 4096 = Nat.count Q (j + 1) := by
  rw [show 4096 = (4095 - j) + (j + 1) by omega, Nat.count_add]
  have h0 : Nat.count (fun n => 4095 ≤ j + n ∧ Q (j + n - 4095)) (4095 - j) = 0 := by
    rw [Nat.count_iff_forall_not]
    intro n hn h
    omega
  rw [h0, Nat.zero_add]
  congr 1
  funext k
  rw [show j + (4095 - j + k) - 4095 = k by omega]
  exact propext ⟨fun h => h.2, fun h => ⟨by omega, h⟩⟩

/-- The running sum along the second axis of an array of zeros and ones. -/
theorem runningSum (x : S4x4096x64.Idx → BitVec 32) (init : S_.Idx → BitVec 32) (hi : init = fun _ => 0#32)
    (b : Fin 4) (t : Fin 4096) (e : Fin 64) (Q : ℕ → Prop) [DecidablePred Q]
    (hx : ∀ s : Fin 4096, x (ix3 b s e) = if Q s.val then 1#32 else 0#32) :
    Host.reduceWindow IntOp.addi ![1, 4096, 1] ![1, 1, 1] ![0, 4095, 0] ![0, 0, 0] x init
      reduceWindows_S4x4096x64_S4x4096x64_w1s1p0_0_w4096s1p4095_0_w1s1p0_0 h_S_ (ix3 b t e)
      = BitVec.ofNat 32 (Nat.count Q (t.val + 1)) := by
  subst hi
  rw [← count_window Q t.val t.isLt]
  refine (sum_marks (fun n => 4095 ≤ t.val + n ∧ Q (t.val + n - 4095)) _ _ fun k => ?_)
  have e0 := rowMajor_val3 (d := ![1, 4096, 1]) ((⟨3, ![1, 4096, 1]⟩ : Shape).rowMajor.symm k) 4096 1 rfl rfl
  rw [Equiv.apply_symm_apply] at e0
  have h0 : ((⟨3, ![1, 4096, 1]⟩ : Shape).rowMajor.symm k 0).val < 1 := ((⟨3, ![1, 4096, 1]⟩ : Shape).rowMajor.symm k 0).isLt
  have h2 : ((⟨3, ![1, 4096, 1]⟩ : Shape).rowMajor.symm k 2).val < 1 := ((⟨3, ![1, 4096, 1]⟩ : Shape).rowMajor.symm k 2).isLt
  have h1 : ((⟨3, ![1, 4096, 1]⟩ : Shape).rowMajor.symm k 1).val < 4096 := ((⟨3, ![1, 4096, 1]⟩ : Shape).rowMajor.symm k 1).isLt
  have hb := b.isLt
  have ht := t.isLt
  have he := e.isLt
  by_cases hk : 4095 ≤ t.val + k.val
  · refine (dif_pos ?_).trans ?_
    · intro a
      match a with
      | ⟨0, _⟩ =>
        change 0 ≤ b.val * 1 + ((⟨3, ![1, 4096, 1]⟩ : Shape).rowMajor.symm k 0).val
          ∧ b.val * 1 + ((⟨3, ![1, 4096, 1]⟩ : Shape).rowMajor.symm k 0).val - 0 < 4
        omega
      | ⟨1, _⟩ =>
        change 4095 ≤ t.val * 1 + ((⟨3, ![1, 4096, 1]⟩ : Shape).rowMajor.symm k 1).val
          ∧ t.val * 1 + ((⟨3, ![1, 4096, 1]⟩ : Shape).rowMajor.symm k 1).val - 4095 < 4096
        omega
      | ⟨2, _⟩ =>
        change 0 ≤ e.val * 1 + ((⟨3, ![1, 4096, 1]⟩ : Shape).rowMajor.symm k 2).val
          ∧ e.val * 1 + ((⟨3, ![1, 4096, 1]⟩ : Shape).rowMajor.symm k 2).val - 0 < 64
        omega
    · refine (congrArg x (a₂ := ix3 b ⟨t.val + k.val - 4095, by omega⟩ e) ?_).trans ((hx _).trans ?_)
      · funext a
        match a with
        | ⟨0, _⟩ =>
          refine Fin.ext ?_
          change b.val * 1 + ((⟨3, ![1, 4096, 1]⟩ : Shape).rowMajor.symm k 0).val - 0 = b.val
          omega
        | ⟨1, _⟩ =>
          refine Fin.ext ?_
          change t.val * 1 + ((⟨3, ![1, 4096, 1]⟩ : Shape).rowMajor.symm k 1).val - 4095 = t.val + k.val - 4095
          omega
        | ⟨2, _⟩ =>
          refine Fin.ext ?_
          change e.val * 1 + ((⟨3, ![1, 4096, 1]⟩ : Shape).rowMajor.symm k 2).val - 0 = e.val
          omega
      · simp only [hk, true_and]
  · refine (dif_neg fun h => hk ?_).trans ?_
    · have := (h 1).1
      change 4095 ≤ t.val * 1 + ((⟨3, ![1, 4096, 1]⟩ : Shape).rowMajor.symm k 1).val at this
      omega
    · simp only [hk, false_and, if_false]

/-! ## The reference's arrays -/

/-- Every token's first choice, then every token's second. -/
def order (x y : S4x2048.Idx → BitVec 32) : IVec S4x4096 32 :=
  shapeCast _ (transpose S4x2x2048 [0, 2, 1] (concatenate S4x2048x2 2
    [⟨S4x2048x1, broadcastInDim S4x2048x1 ![0, 1] bcast_S4x2048_S4x2048x1_0_1 x⟩,
     ⟨S4x2048x1, broadcastInDim S4x2048x1 ![0, 1] bcast_S4x2048_S4x2048x1_0_1 y⟩] concatenates_S4x2048x1_S4x2048x1_S4x2048x2_d2)
    transposes_S4x2048x2_S4x2x2048_0_2_1) shapeCasts_S4x2x2048_S4x4096

/-- A one where the choice is the expert. -/
def hot (A : IVec S4x4096 32) : IVec S4x4096x64 32 :=
  extui 32 (cmpi .eq (broadcastInDim S4x4096x64 ![0, 1, 2] bcast_S4x4096x1_S4x4096x64_0_1_2
      (broadcastInDim S4x4096x1 ![0, 1] bcast_S4x4096_S4x4096x1_0_1 A))
    (broadcastInDim S4x4096x64 ![0, 1, 2] bcast_S1x1x64_S4x4096x64_0_1_2 (iotaInDim S1x1x64 32 2))) natLt_1_32

theorem side_first {α : Type} (x y : S4x2048.Idx → α) (b : Fin 4) (t : Fin 2048) :
    concatenate S4x2048x2 2
      [⟨S4x2048x1, broadcastInDim S4x2048x1 ![0, 1] bcast_S4x2048_S4x2048x1_0_1 x⟩,
       ⟨S4x2048x1, broadcastInDim S4x2048x1 ![0, 1] bcast_S4x2048_S4x2048x1_0_1 y⟩] concatenates_S4x2048x1_S4x2048x1_S4x2048x2_d2
      (ix3 b t 0) = x (ix2 b t) := by
  pointwise

theorem side_second {α : Type} (x y : S4x2048.Idx → α) (b : Fin 4) (t : Fin 2048) :
    concatenate S4x2048x2 2
      [⟨S4x2048x1, broadcastInDim S4x2048x1 ![0, 1] bcast_S4x2048_S4x2048x1_0_1 x⟩,
       ⟨S4x2048x1, broadcastInDim S4x2048x1 ![0, 1] bcast_S4x2048_S4x2048x1_0_1 y⟩] concatenates_S4x2048x1_S4x2048x1_S4x2048x2_d2
      (ix3 b t 1) = y (ix2 b t) := by
  pointwise

theorem order_first (x y : S4x2048.Idx → BitVec 32) (b : Fin 4) (t : Fin 2048) :
    order x y (ix2 b ⟨t.val, by omega⟩) = x (ix2 b t) := by
  unfold order
  pointwise
  rw [dif_pos (by omega)]
  exact congrArg (fun u => x (ix2 b u)) (Fin.ext (Nat.mod_eq_of_lt t.isLt))

theorem order_second (x y : S4x2048.Idx → BitVec 32) (b : Fin 4) (t : Fin 2048) :
    order x y (ix2 b ⟨2048 + t.val, by omega⟩) = y (ix2 b t) := by
  unfold order
  pointwise
  rw [dif_neg (by omega)]

theorem hot_apply (A : IVec S4x4096 32) (b : Fin 4) (t : Fin 4096) (e : Fin 64) :
    hot A (ix3 b t e) = if A (ix2 b t) = BitVec.ofNat 32 e.val then 1#32 else 0#32 := by
  unfold hot
  pointwise
  by_cases h : A (ix2 b t) = BitVec.ofNat 32 e.val <;>
    simp [h, IntOp.cmpi, beq_eq_false_iff_ne.2]

/-- The running count of each expert's choices, this one included. -/
def upTo (A : IVec S4x4096 32) : IVec S4x4096x64 32 :=
  Host.reduceWindow IntOp.addi ![1, 4096, 1] ![1, 1, 1] ![0, 4095, 0] ![0, 0, 0] (hot A)
    (broadcastInDim S_ ![] bcast_S_S_ (constantI S_ 32 0#32))
    reduceWindows_S4x4096x64_S4x4096x64_w1s1p0_0_w4096s1p4095_0_w1s1p0_0 h_S_

/-- The number of the first `n` choices that are expert `e`. -/
def before (A : IVec S4x4096 32) (b : Fin 4) (n : ℕ) (e : BitVec 32) : ℕ :=
  Nat.count (fun s => ∃ h : s < 4096, A (ix2 b ⟨s, h⟩) = e) n

theorem upTo_apply (A : IVec S4x4096 32) (b : Fin 4) (t : Fin 4096) (e : Fin 64) :
    upTo A (ix3 b t e) = BitVec.ofNat 32 (before A b (t.val + 1) (BitVec.ofNat 32 e.val)) := by
  refine runningSum _ _ rfl b t e (fun s => ∃ h : s < 4096, A (ix2 b ⟨s, h⟩) = BitVec.ofNat 32 e.val) fun s => ?_
  rw [hot_apply]
  have : (∃ h : s.val < 4096, A (ix2 b ⟨s.val, h⟩) = BitVec.ofNat 32 e.val) ↔ A (ix2 b s) = BitVec.ofNat 32 e.val :=
    ⟨fun ⟨_, h⟩ => h, fun h => ⟨s.isLt, h⟩⟩
  simp only [this]

/-- The count where the choice is the expert, zero elsewhere; less one. -/
def scores (A : IVec S4x4096 32) : FVec Ideal S4x4096x64 .f32 :=
  subf (mulf (sitofp .f32 (upTo A)) (sitofp .f32 (hot A)))
    (broadcastInDim S4x4096x64 ![] bcast_S_S4x4096x64 (constant S_ .f32 0x3F800000#32))

/-- A small number's word, read as a signed number. -/
theorem toInt_small {n : ℕ} (h : n < 2 ^ 31) : (BitVec.ofNat 32 n).toInt = n := by
  rw [BitVec.toInt_eq_toNat_of_lt (by rw [BitVec.toNat_ofNat]; omega), BitVec.toNat_ofNat, Nat.mod_eq_of_lt (by omega)]

theorem sitofp_small {n : ℕ} (h : n < 2 ^ 31) : FloatOps.sitofp (F := Ideal) .f32 (BitVec.ofNat 32 n) = ((n : ℝ) : EReal) := by
  change (((BitVec.ofNat 32 n).toInt : ℝ) : EReal) = _
  rw [toInt_small h, Int.cast_natCast]

theorem before_le (A : IVec S4x4096 32) (b : Fin 4) (n : ℕ) (e : BitVec 32) : before A b n e ≤ n := Nat.count_le _

theorem scores_apply (A : IVec S4x4096 32) (b : Fin 4) (t : Fin 4096) (e : Fin 64) :
    scores A (ix3 b t e) = if A (ix2 b t) = BitVec.ofNat 32 e.val
      then ((before A b t.val (BitVec.ofNat 32 e.val) : ℝ) : EReal) else ((-1 : ℝ) : EReal) := by
  unfold scores
  pointwise
  rw [upTo_apply, hot_apply]
  have hn := before_le A b (t.val + 1) (BitVec.ofNat 32 e.val)
  rw [sitofp_small (by omega)]
  by_cases h : A (ix2 b t) = BitVec.ofNat 32 e.val
  · rw [if_pos h, if_pos h, show (1#32 : BitVec 32) = BitVec.ofNat 32 1 from rfl, sitofp_small (by norm_num)]
    have hs : before A b (t.val + 1) (BitVec.ofNat 32 e.val) = before A b t.val (BitVec.ofNat 32 e.val) + 1 := by
      unfold before
      rw [Nat.count_succ, if_pos ⟨t.isLt, h⟩]
    rw [hs, ← EReal.coe_one, ← EReal.coe_mul, ← EReal.coe_sub]
    congr 1
    push_cast
    ring
  · rw [if_neg h, if_neg h, show (0#32 : BitVec 32) = BitVec.ofNat 32 0 from rfl, sitofp_small (by norm_num)]
    rw [← EReal.coe_one, ← EReal.coe_mul, ← EReal.coe_sub]
    congr 1
    push_cast
    ring

/-- The scores, a token's two choices side by side. -/
def turned (A : IVec S4x4096 32) : FVec Ideal S4x2048x2x64 .f32 :=
  transpose S4x2048x2x64 [0, 2, 1, 3] (shapeCast _ (scores A) shapeCasts_S4x4096x64_S4x2x2048x64)
    transposes_S4x2x2048x64_S4x2048x2x64_0_2_1_3

theorem turned_apply (A : IVec S4x4096 32) (b : Fin 4) (n : Fin 2048) (k : Fin 2) (e : Fin 64) :
    turned A (ix4 b n k e) = if A (ix2 b ⟨k.val * 2048 + n.val, by omega⟩) = BitVec.ofNat 32 e.val
      then ((before A b (k.val * 2048 + n.val) (BitVec.ofNat 32 e.val) : ℝ) : EReal) else ((-1 : ℝ) : EReal) := by
  unfold turned
  pointwise
  exact scores_apply A b ⟨k.val * 2048 + n.val, by omega⟩ e

/-- The largest score over the experts: the priority of each token's two choices. -/
def prios (A : IVec S4x4096 32) : FVec Ideal S4x2048x2 .f32 :=
  Host.reduce FloatOps.maximumf (turned A) (constant S_ .f32 0xFF800000#32) reducesTo_S4x2048x2x64_S4x2048x2_d3 h_S_

theorem prios_apply (A : IVec S4x4096 32) (b : Fin 4) (n : Fin 2048) (k : Fin 2)
    (hA : (A (ix2 b ⟨k.val * 2048 + n.val, by omega⟩)).toNat < 64) :
    prios A (ix3 b n k) = ((before A b (k.val * 2048 + n.val) (A (ix2 b ⟨k.val * 2048 + n.val, by omega⟩)) : ℝ) : EReal) := by
  unfold prios
  haveI : Std.Commutative (FloatOps.maximumf (F := Ideal) (φ := .f32)) := ⟨fun a b => max_comm a b⟩
  haveI : Std.Associative (FloatOps.maximumf (F := Ideal) (φ := .f32)) := ⟨fun a b c => max_assoc a b c⟩
  rw [Host.reduce_eq_fold_single _ _ _ _ (by decide)]
  have hl : ∀ (h : S4x2048x2x64.Reduces [3] S4x2048x2) (e : Fin 64), h.lift (ix3 b n k) e = ix4 b n k e := fun h e => by
    funext a
    match a with
    | ⟨0, _⟩ => rfl
    | ⟨1, _⟩ => rfl
    | ⟨2, _⟩ => rfl
    | ⟨3, _⟩ => rfl
  have hinit : (constant S_ .f32 0xFF800000#32 : FVec Ideal S_ .f32) (Shape.Idx.first h_S_) = ⊥ := by
    change Ideal.ofBits .f32 0xFF800000#32 = ⊥
    simp [Ideal.ofBits, Ideal.ieee]
  have hA' : A (ix2 b ⟨k.val * 2048 + n.val, by omega⟩) = BitVec.ofNat 32 (A (ix2 b ⟨k.val * 2048 + n.val, by omega⟩)).toNat := by
    rw [BitVec.ofNat_toNat, BitVec.setWidth_eq]
  rw [hinit]
  refine (Finset.fold_congr fun e _ => (congrArg (turned A) (hl _ e)).trans (turned_apply A b n k e)).trans ?_
  refine le_antisymm ?_ ?_
  · refine Finset.fold_max_le _ |>.2 ⟨bot_le, fun e _ => ?_⟩
    by_cases h : A (ix2 b ⟨k.val * 2048 + n.val, by omega⟩) = BitVec.ofNat 32 e.val
    · rw [if_pos h, h]
    · rw [if_neg h]
      exact EReal.coe_le_coe_iff.2 (by have := Nat.cast_nonneg (α := ℝ) (before A b (k.val * 2048 + n.val) (A (ix2 b ⟨k.val * 2048 + n.val, by omega⟩))); linarith)
  · refine Finset.le_fold_max _ |>.2 (Or.inr ⟨(⟨_, hA⟩ : Fin 64), Finset.mem_univ _, ?_⟩)
    rw [if_pos hA', ← hA']

/-! ## The counts are the kernel's -/

theorem count_same {P Q : ℕ → Prop} [DecidablePred P] [DecidablePred Q] (n : ℕ) (h : ∀ t < n, (P t ↔ Q t)) :
    Nat.count P n = Nat.count Q n := by
  rw [Nat.count_eq_card_filter_range, Nat.count_eq_card_filter_range]
  exact congrArg _ (Finset.filter_congr fun t ht => h t (Finset.mem_range.1 ht))

theorem rowAt_rowOf {α : Type} (x : S4x2048.Idx → α) (b : Fin 4) (t : ℕ) (ht : t < 2048) :
    rowAt (rowOf x b) t = x (ix2 b ⟨t, ht⟩) := by
  refine congrArg x ?_
  funext a
  match a with
  | ⟨0, _⟩ => rfl
  | ⟨1, _⟩ => exact Fin.ext (Nat.mod_eq_of_lt ht)

theorem before_first (x y : S4x2048.Idx → BitVec 32) (b : Fin 4) (n : ℕ) (hn : n ≤ 2048) (e : BitVec 32) :
    before (order x y) b n e = seen (rowOf x b) n e := by
  refine count_same n fun t ht => ?_
  have h := order_first x y b ⟨t, by omega⟩
  rw [rowAt_rowOf x b t (by omega), ← h]
  exact ⟨fun ⟨_, h⟩ => h, fun h => ⟨by omega, h⟩⟩

theorem before_second (x y : S4x2048.Idx → BitVec 32) (b : Fin 4) (n : ℕ) (hn : n ≤ 2048) (e : BitVec 32) :
    before (order x y) b (2048 + n) e = seen (rowOf x b) 2048 e + seen (rowOf y b) n e := by
  rw [← before_first x y b 2048 le_rfl]
  refine (Nat.count_add _ _ _).trans (congrArg _ (count_same n fun t ht => ?_))
  have h := order_second x y b ⟨t, by omega⟩
  rw [rowAt_rowOf y b t (by omega), ← h]
  exact ⟨fun ⟨_, h⟩ => h, fun h => ⟨by omega, h⟩⟩

theorem prios_first (x y : S4x2048.Idx → BitVec 32) (hx : ∀ j, (x j).toNat < 64) (b : Fin 4) (n : Fin 2048) :
    prios (order x y) (ix3 b n 0) = (sitofp .f32 (priAll noBase x) : FVec Ideal S4x2048 .f32) (ix2 b n) := by
  have e : (⟨(0 : Fin 2).val * 2048 + n.val, by omega⟩ : Fin 4096) = ⟨n.val, by omega⟩ := Fin.ext (by simp)
  rw [prios_apply _ _ _ _ (by rw [e, order_first]; exact hx _), e, order_first]
  change _ = FloatOps.sitofp (F := Ideal) .f32 (BitVec.ofNat 32 (0 + seen (rowOf x b) n.val (x (ix2 b n))))
  have h := before_le (order x y) b n.val (x (ix2 b n))
  rw [before_first x y b n.val (by omega)] at h
  rw [Nat.zero_add, sitofp_small (by omega), ← before_first x y b n.val (by omega)]
  simp

theorem prios_second (x y : S4x2048.Idx → BitVec 32) (hy : ∀ j, (y j).toNat < 64) (b : Fin 4) (n : Fin 2048) :
    prios (order x y) (ix3 b n 1) = (sitofp .f32 (priAll (firstBase x) y) : FVec Ideal S4x2048 .f32) (ix2 b n) := by
  have e : (⟨(1 : Fin 2).val * 2048 + n.val, by omega⟩ : Fin 4096) = ⟨2048 + n.val, by omega⟩ := Fin.ext (by simp)
  rw [prios_apply _ _ _ _ (by rw [e, order_second]; exact hy _), e, order_second]
  change _ = FloatOps.sitofp (F := Ideal) .f32 (BitVec.ofNat 32 (seen (rowOf x b) 2048 (y (ix2 b n)) + seen (rowOf y b) n.val (y (ix2 b n))))
  have h := before_le (order x y) b (2048 + n.val) (y (ix2 b n))
  rw [before_second x y b n.val (by omega)] at h
  rw [sitofp_small (by omega), ← before_second x y b n.val (by omega)]
  simp

/-! ## The two results -/

/-- The reference's first result, of its two arrays of experts. -/
def refOut1 (x y : S4x2048.Idx → BitVec 32) : FVec Ideal S4x2048x4 .f32 :=
  concatenate S4x2048x4 2 [⟨S4x2048x2, sitofp .f32 (transpose S4x2048x2 [0, 2, 1]
      (shapeCast _ (order x y) shapeCasts_S4x4096_S4x2x2048) transposes_S4x2x2048_S4x2048x2_0_2_1)⟩,
    ⟨S4x2048x2, prios (order x y)⟩] concatenates_S4x2048x2_S4x2048x2_S4x2048x4_d2

/-- Its second, of the experts, the weights and the capacity. -/
def refOut2 (x y : S4x2048.Idx → BitVec 32) (u v : FVec Ideal S4x2048 .f32) (c : IVec S_ 32) : FVec Ideal S4x2048x2 .f32 :=
  mulf (concatenate S4x2048x2 2
      [⟨S4x2048x1, broadcastInDim S4x2048x1 ![0, 1] bcast_S4x2048_S4x2048x1_0_1 u⟩,
       ⟨S4x2048x1, broadcastInDim S4x2048x1 ![0, 1] bcast_S4x2048_S4x2048x1_0_1 v⟩] concatenates_S4x2048x1_S4x2048x1_S4x2048x2_d2)
    (uitofp .f32 (cmpf .olt (prios (order x y)) (broadcastInDim S4x2048x2 ![] bcast_S_S4x2048x2 (sitofp .f32 c))))

theorem refOut1_eq (x y : S4x2048.Idx → BitVec 32) (hx : ∀ j, (x j).toNat < 64) (hy : ∀ j, (y j).toNat < 64) :
    refOut1 x y = cat4 (F := Ideal) (col (sitofp .f32 x)) (col (sitofp .f32 y)) (col (sitofp .f32 (priAll noBase x)))
      (col (sitofp .f32 (priAll (firstBase x) y))) := by
  have h1 := prios_first x y hx
  have h2 := prios_second x y hy
  funext j
  idx_vars j
  unfold refOut1 cat4
  generalize prios (order x y) = p at h1 h2 ⊢
  generalize (sitofp .f32 (priAll noBase x) : FVec Ideal S4x2048 .f32) = r1 at h1 ⊢
  generalize (sitofp .f32 (priAll (firstBase x) y) : FVec Ideal S4x2048 .f32) = r2 at h2 ⊢
  unfold order
  pointwise
  have h := j2.isLt
  by_cases k0 : j2.val < 1
  · simp only [k0, show j2.val < 2 by omega, dif_pos]
  · by_cases k1 : j2.val - 1 < 1
    · simp only [k0, k1, show j2.val < 2 by omega, dif_pos, dif_neg, not_false_eq_true]
    · by_cases k2 : j2.val - 1 - 1 < 1
      · simp only [k0, k1, k2, show ¬ j2.val < 2 by omega, dif_pos, dif_neg, not_false_eq_true]
        rw [← h1]
        exact congrArg (fun k => p (ix3 j0 j1 k)) (Fin.ext (show j2.val - 2 = 0 by omega))
      · simp only [k0, k1, k2, show ¬ j2.val < 2 by omega, dif_neg, not_false_eq_true]
        rw [← h2]
        exact congrArg (fun k => p (ix3 j0 j1 k)) (Fin.ext (show j2.val - 2 = 1 by omega))

/-- A weight times the truth of a comparison is the weight or zero. -/
theorem weight_mask (p c : BitVec 32) (w : EReal) :
    w * FloatOps.uitofp (F := Ideal) .f32 (BitVec.ofBool (decide (FloatOps.sitofp (F := Ideal) .f32 p < FloatOps.sitofp (F := Ideal) .f32 c)))
      = Scalar.select (IntOp.cmpi .slt p c) w 0 := by
  change w * (((BitVec.ofBool (decide (((p.toInt : ℝ) : EReal) < ((c.toInt : ℝ) : EReal)))).toNat : ℝ) : EReal) = _
  by_cases h : p.toInt < c.toInt
  · rw [decide_eq_true (EReal.coe_lt_coe_iff.2 (Int.cast_lt.2 h)), IntOp.cmpi_slt.2 h]
    simp [Scalar.select]
  · rw [decide_eq_false (fun h' => h (Int.cast_lt.1 (EReal.coe_lt_coe_iff.1 h')))]
    have : IntOp.cmpi .slt p c ≠ 1#1 := fun h' => h (IntOp.cmpi_slt.1 h')
    simp [Scalar.select, this]

theorem weights_kept (x : IVec S4x2048 32) (u : FVec Ideal S4x2048 .f32) (c : BitVec 32) (b : Fin 4) (n : Fin 2048) :
    u (ix2 b n) * FloatOps.uitofp (F := Ideal) .f32 (BitVec.ofBool (decide ((sitofp .f32 x : FVec Ideal S4x2048 .f32) (ix2 b n)
        < FloatOps.sitofp (F := Ideal) .f32 c)))
      = kept c x u (ix2 b n) := by
  refine (weight_mask (x (ix2 b n)) c (u (ix2 b n))).trans ?_
  change _ = Scalar.select (IntOp.cmpi .slt (x (ix2 b n)) c) (u (ix2 b n)) (Ideal.ofBits .f32 0#32)
  rw [Ideal.ofBits_zero_f32]

theorem refOut2_eq (x y : S4x2048.Idx → BitVec 32) (u v : FVec Ideal S4x2048 .f32) (c : IVec S_ 32)
    (hx : ∀ j, (x j).toNat < 64) (hy : ∀ j, (y j).toNat < 64) :
    refOut2 x y u v c = cat2 (F := Ideal) (col (kept (c fun a => a.elim0) (priAll noBase x) u))
      (col (kept (c fun a => a.elim0) (priAll (firstBase x) y) v)) := by
  have h1 := prios_first x y hx
  have h2 := prios_second x y hy
  have k1 := fun n b => weights_kept (priAll noBase x) u (c fun a => a.elim0) n b
  have k2 := fun n b => weights_kept (priAll (firstBase x) y) v (c fun a => a.elim0) n b
  have e0 : c (fun a => a.elim0) = c ix0 := congrArg c (funext fun a => a.elim0)
  funext j
  idx_vars j
  unfold refOut2 cat2
  generalize prios (order x y) = p at h1 h2 ⊢
  generalize (sitofp .f32 (priAll noBase x) : FVec Ideal S4x2048 .f32) = r1 at h1 k1 ⊢
  generalize (sitofp .f32 (priAll (firstBase x) y) : FVec Ideal S4x2048 .f32) = r2 at h2 k2 ⊢
  generalize kept (c fun a => a.elim0) (priAll noBase x) u = q1 at k1 ⊢
  generalize kept (c fun a => a.elim0) (priAll (firstBase x) y) v = q2 at k2 ⊢
  rw [e0] at k1 k2
  pointwise
  by_cases hk : j2.val < 1
  · obtain rfl : j2 = 0 := Fin.ext (by simpa using hk)
    simp only [hk, dif_pos]
    rw [h1, k1]
  · obtain rfl : j2 = 1 := Fin.ext (show j2.val = 1 by have := j2.isLt; omega)
    simp only [hk, dif_neg, not_false_eq_true]
    rw [h2, k2]

end Cert.Proof.Priority

end
-- ==== Proof.RouterMath.lean ====
/-
  The mathematics of one token's routing, over the reals: the softmax of a row of 64, the row's best and second best
  expert (the lower number first among equals), and the extended reals' operations at real numbers.
-/
module

public import Idealize.ShloMosaic.PureOps.Ideal
public import Idealize.ShloMosaic.PureOps.Reduce
public import Idealize.ShloMosaic.Lib.PlanTiles.StableSort
public import Idealize.ShloMosaic.Lib.PlanTiles.Rows

@[expose] public section

noncomputable section

namespace Cert.Proof.Route

open Idealize.ShloMosaic

/-- A token's logits: its row times the gate's column of each expert. -/
def logits (X : Fin 4 → Fin 2048 → Fin 2048 → ℝ) (W : Fin 2048 → Fin 64 → ℝ) (b : Fin 4) (n : Fin 2048) (e : Fin 64) : ℝ :=
  ∑ d, X b n d * W d e

/-! ### Folds -/

/-- A fold whose every entry and start one of the entries absorbs is that entry. -/
theorem fold_absorb {α ι : Type} (op : α → α → α) [hc : Std.Commutative op] [ha : Std.Associative op] (b A : α)
    (w : ι → α) (s : Finset ι) (a : ι) (has : a ∈ s) (hw : w a = A) (hb : op A b = A) (h : ∀ e ∈ s, op A (w e) = A) :
    s.fold op b w = A := by
  classical
  have key : ∀ t : Finset ι, t ⊆ s → op A (t.fold op b w) = A := by
    intro t
    induction t using Finset.induction_on with
    | empty => intro _; rw [Finset.fold_empty]; exact hb
    | insert x t hx ih =>
      intro hs
      rw [Finset.fold_insert hx, ← ha.assoc, h x (hs (Finset.mem_insert_self x t)),
        ih ((Finset.subset_insert x t).trans hs)]
  rw [← Finset.insert_erase has, Finset.fold_insert (Finset.notMem_erase a s), hw]
  exact key _ (Finset.erase_subset a s)

/-! ### The best two of 64 -/

/-- `a` is chosen before `b`: it is the greater, or the equal one of lower number. -/
def Beats (P : Fin 64 → ℝ) (a b : Fin 64) : Prop := P b < P a ∨ (P a = P b ∧ a < b)

theorem exists_best (P : Fin 64 → ℝ) (s : Finset (Fin 64)) (hs : s.Nonempty) :
    ∃ a ∈ s, ∀ b ∈ s, b ≠ a → Beats P a b := by
  obtain ⟨m, hm, hmax⟩ := s.exists_max_image P hs
  have hne : (s.filter fun e => P e = P m).Nonempty := ⟨m, Finset.mem_filter.mpr ⟨hm, rfl⟩⟩
  have hmem := Finset.min'_mem _ hne
  rw [Finset.mem_filter] at hmem
  refine ⟨_, hmem.1, fun b hb hne' => ?_⟩
  rcases lt_or_eq_of_le (hmax b hb) with h | h
  · exact Or.inl (by rw [hmem.2]; exact h)
  · exact Or.inr ⟨by rw [hmem.2, h], lt_of_le_of_ne (Finset.min'_le _ b (Finset.mem_filter.mpr ⟨hb, h⟩)) (Ne.symm hne')⟩

/-- The best of the row. -/
def first (P : Fin 64 → ℝ) : Fin 64 := Classical.choose (exists_best P Finset.univ Finset.univ_nonempty)

theorem first_beats (P : Fin 64 → ℝ) {b : Fin 64} (h : b ≠ first P) : Beats P (first P) b :=
  (Classical.choose_spec (exists_best P Finset.univ Finset.univ_nonempty)).2 b (Finset.mem_univ b) h

theorem rest_nonempty (a : Fin 64) : (Finset.univ.erase a).Nonempty := by
  rw [← Finset.card_pos, Finset.card_erase_of_mem (Finset.mem_univ a), Finset.card_univ, Fintype.card_fin]; decide

/-- The best of the others. -/
def second (P : Fin 64 → ℝ) : Fin 64 := Classical.choose (exists_best P _ (rest_nonempty (first P)))

theorem second_ne (P : Fin 64 → ℝ) : second P ≠ first P :=
  Finset.ne_of_mem_erase (Classical.choose_spec (exists_best P _ (rest_nonempty (first P)))).1

theorem second_beats (P : Fin 64 → ℝ) {b : Fin 64} (h : b ≠ first P) (h' : b ≠ second P) : Beats P (second P) b :=
  (Classical.choose_spec (exists_best P _ (rest_nonempty (first P)))).2 b (Finset.mem_erase.mpr ⟨h, Finset.mem_univ b⟩) h'

theorem Beats.le {P : Fin 64 → ℝ} {a b : Fin 64} (h : Beats P a b) : P b ≤ P a :=
  h.elim le_of_lt fun h => h.1.ge

theorem Beats.num_le {P : Fin 64 → ℝ} {a b : Fin 64} (h : Beats P a b) (he : P b = P a) : a ≤ b :=
  h.elim (fun h => absurd he h.ne) fun h => h.2.le

theorem Beats.asymm {P : Fin 64 → ℝ} {a b : Fin 64} (h : Beats P a b) (h' : Beats P b a) : False := by
  rcases h with h | ⟨h, h1⟩ <;> rcases h' with h' | ⟨h', h2⟩
  · exact lt_asymm h h'
  · exact absurd h' h.ne
  · exact absurd h h'.ne
  · exact lt_asymm h1 h2

theorem le_first (P : Fin 64 → ℝ) (b : Fin 64) : P b ≤ P (first P) := by
  rcases eq_or_ne b (first P) with rfl | h
  exacts [le_refl _, (first_beats P h).le]

theorem first_num_le (P : Fin 64 → ℝ) (b : Fin 64) (h : P b = P (first P)) : first P ≤ b := by
  rcases eq_or_ne b (first P) with hb | hb
  exacts [hb.ge, (first_beats P hb).num_le h]

theorem le_second (P : Fin 64 → ℝ) {b : Fin 64} (h : b ≠ first P) : P b ≤ P (second P) := by
  rcases eq_or_ne b (second P) with h' | h'
  exacts [h' ▸ le_refl _, (second_beats P h h').le]

theorem second_num_le (P : Fin 64 → ℝ) {b : Fin 64} (h : b ≠ first P) (he : P b = P (second P)) : second P ≤ b := by
  rcases eq_or_ne b (second P) with hb | hb
  exacts [hb.ge, (second_beats P h hb).num_le he]

theorem first_unique (P : Fin 64 → ℝ) (a : Fin 64) (h : ∀ b, b ≠ a → Beats P a b) : a = first P := by
  by_contra hne
  exact (h _ (Ne.symm hne)).asymm (first_beats P hne)

theorem second_unique (P : Fin 64 → ℝ) (a : Fin 64) (ha : a ≠ first P) (h : ∀ b, b ≠ first P → b ≠ a → Beats P a b) :
    a = second P := by
  by_contra hne
  exact (h _ (second_ne P) (Ne.symm hne)).asymm (second_beats P ha hne)

/-! ### A descending stable sort's first two -/

/-- How many entries are less than entry `e`. -/
def below (P : Fin 64 → ℝ) (e : Fin 64) : ℕ := (Finset.univ.filter fun x => P x < P e).card

theorem below_lt (P : Fin 64 → ℝ) (a b : Fin 64) : below P b < below P a ↔ P b < P a := by
  constructor
  · intro h
    by_contra hn
    refine absurd (Finset.card_le_card fun x hx => ?_) (Nat.not_le.mpr h)
    rw [Finset.mem_filter] at hx ⊢
    exact ⟨hx.1, hx.2.trans_le (not_lt.mp hn)⟩
  · intro h
    refine Finset.card_lt_card ⟨fun x hx => ?_, fun hs => ?_⟩
    · rw [Finset.mem_filter] at hx ⊢
      exact ⟨hx.1, hx.2.trans h⟩
    · have := hs (Finset.mem_filter.mpr ⟨Finset.mem_univ b, h⟩)
      exact lt_irrefl _ (Finset.mem_filter.mp this).2

theorem sortedFrom_rel {n : ℕ} (before : Fin n → Fin n → Bool) (R : Fin n → Fin n → Prop)
    (h : (sortPositions n before).Pairwise R) {k k' : Fin n} (hk : k < k') : R (sortedFrom before k) (sortedFrom before k') :=
  List.pairwise_iff_get.mp h (k.cast (length_sortPositions n before).symm) (k'.cast (length_sortPositions n before).symm)
    (Fin.lt_def.mpr (Fin.lt_def.mp hk))

theorem sorted_beats (P : Fin 64 → ℝ) (before : Fin 64 → Fin 64 → Bool) (h : ∀ a b, before a b = decide (P b < P a))
    {k k' : Fin 64} (hk : k < k') : Beats P (sortedFrom before k) (sortedFrom before k') := by
  have hb : before = fun x y => decide (below P y < below P x) := by
    funext x y; rw [h]; exact decide_eq_decide.mpr (below_lt P x y).symm
  have hp := PlanTiles.pairwise_stableSort_lex (below P) (· < ·) (List.finRange 64) (List.pairwise_lt_finRange 64)
  rw [← hb] at hp
  have hq : (sortPositions 64 before).Pairwise (PlanTiles.Lex (below P) (· < ·)) := hp
  have hp' : PlanTiles.Lex (below P) (· < ·) (sortedFrom before k) (sortedFrom before k') :=
    sortedFrom_rel before _ hq hk
  rcases hp' with h1 | ⟨h1, h2⟩
  · exact Or.inl ((below_lt P _ _).mp h1)
  · refine Or.inr ⟨le_antisymm (not_lt.mp fun h3 => ?_) (not_lt.mp fun h3 => ?_), h2⟩
    · exact absurd ((below_lt P _ _).mpr h3) (by rw [h1]; exact lt_irrefl _)
    · exact absurd ((below_lt P _ _).mpr h3) (by rw [h1]; exact lt_irrefl _)

theorem sorted_first (P : Fin 64 → ℝ) (before : Fin 64 → Fin 64 → Bool) (h : ∀ a b, before a b = decide (P b < P a)) :
    sortedFrom before 0 = first P := by
  refine first_unique P _ fun b hb => ?_
  obtain ⟨k, rfl⟩ := sortedFrom_surjective before b
  exact sorted_beats P before h (Fin.pos_of_ne_zero fun h0 => hb (by rw [h0]))

theorem sorted_second (P : Fin 64 → ℝ) (before : Fin 64 → Fin 64 → Bool) (h : ∀ a b, before a b = decide (P b < P a)) :
    sortedFrom before 1 = second P := by
  refine second_unique P _ (fun h1 => ?_) fun b hb hb' => ?_
  · rw [← sorted_first P before h] at h1
    exact absurd (sortedFrom_injective before h1) (by decide)
  · rw [← sorted_first P before h] at hb
    obtain ⟨k, rfl⟩ := sortedFrom_surjective before b
    refine sorted_beats P before h ?_
    have h0 : k ≠ 0 := fun h0 => hb (by rw [h0])
    have h1 : k ≠ 1 := fun h0 => hb' (by rw [h0])
    have h0' : k.val ≠ 0 := fun hh => h0 (Fin.ext hh)
    have h1' : k.val ≠ 1 := fun hh => h1 (Fin.ext hh)
    show (1 : ℕ) < k.val
    omega

/-! ### Softmax -/

/-- The row's greatest entry. -/
def mx (P : Fin 64 → ℝ) : ℝ := P (first P)
/-- The exponentials of the row shifted by its greatest entry. -/
def ex (L : Fin 64 → ℝ) (e : Fin 64) : ℝ := Real.exp (L e - mx L)
/-- Their sum. -/
def sm (L : Fin 64 → ℝ) : ℝ := ∑ e, ex L e
/-- The row's softmax. -/
def soft (L : Fin 64 → ℝ) (e : Fin 64) : ℝ := ex L e / sm L
/-- The row's log of the sum of exponentials. -/
def lse (L : Fin 64 → ℝ) : ℝ := mx L + Real.log (sm L)
/-- The probabilities: the softmax of the softmax. -/
def probs (L : Fin 64 → ℝ) : Fin 64 → ℝ := soft (soft L)
/-- The mark of an expert chosen first or second. -/
def mark (L : Fin 64 → ℝ) (e : Fin 64) : ℝ :=
  (if e = first (probs L) then 1 else 0) + (if e = second (probs L) then 1 else 0)

theorem ex_pos (L : Fin 64 → ℝ) (e : Fin 64) : 0 < ex L e := Real.exp_pos _
theorem ex_first (L : Fin 64 → ℝ) : ex L (first L) = 1 := by unfold ex mx; rw [sub_self, Real.exp_zero]
theorem ex_le_one (L : Fin 64 → ℝ) (e : Fin 64) : ex L e ≤ 1 :=
  Real.exp_le_one_iff.mpr (sub_nonpos.mpr (le_first L e))
theorem sm_pos (L : Fin 64 → ℝ) : 0 < sm L := Finset.sum_pos (fun e _ => ex_pos L e) Finset.univ_nonempty
theorem soft_pos (L : Fin 64 → ℝ) (e : Fin 64) : 0 < soft L e := div_pos (ex_pos L e) (sm_pos L)

theorem mx_eq (P : Fin 64 → ℝ) (M : ℝ) (a : Fin 64) (ha : P a = M) (h : ∀ e, P e ≤ M) : mx P = M :=
  le_antisymm (h _) (ha ▸ le_first P a)

/-- The greatest entry of a softmax is one over the sum. -/
theorem mx_soft (L : Fin 64 → ℝ) : mx (soft L) = 1 / sm L :=
  mx_eq _ _ (first L) (by unfold soft; rw [ex_first]) fun e => by
    unfold soft; exact div_le_div_of_nonneg_right (ex_le_one L e) (sm_pos L).le

theorem probs_pos (L : Fin 64 → ℝ) (e : Fin 64) : 0 < probs L e := soft_pos _ e

/-- The best probability is one over the second softmax's sum. -/
theorem mx_probs (L : Fin 64 → ℝ) : mx (probs L) = 1 / sm (soft L) := mx_soft _

/-- The balance loss: over the batch and the experts, tokens that chose the expert times its probabilities' sum. -/
def balance (X : Fin 4 → Fin 2048 → Fin 2048 → ℝ) (W : Fin 2048 → Fin 64 → ℝ) : ℝ :=
  (∑ b : Fin 4, ∑ e : Fin 64, (∑ n : Fin 2048, mark (logits X W b n) e) * (∑ n : Fin 2048, probs (logits X W b n) e))
    * 64 / 16777216

/-- The z-loss: the mean square of the tokens' log-sum-exps. -/
def zloss (X : Fin 4 → Fin 2048 → Fin 2048 → ℝ) (W : Fin 2048 → Fin 64 → ℝ) : ℝ :=
  (∑ b : Fin 4, ∑ n : Fin 2048, lse (logits X W b n) * lse (logits X W b n)) / 8192

/-! ### The extended reals' operations at reals -/

theorem coe_sum {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

theorem div_real (x y : ℝ) (h : y ≠ 0) : Ideal.div (x : EReal) (y : EReal) = ((x / y : ℝ) : EReal) := by
  rw [Ideal.div_coe h, ← EReal.coe_mul, mul_one_div]

theorem log_real (x : ℝ) (h : 0 < x) : Ideal.log (x : EReal) = ((Real.log x : ℝ) : EReal) := by
  rw [Ideal.log_coe, if_neg (not_le.mpr h)]

theorem word_ninf : Ideal.ofBits .f32 0xFF800000#32 = ⊥ := by simp [Ideal.ofBits, Ideal.ieee]
theorem word_64 : Ideal.ofBits .f32 0x42800000#32 = ((64 : ℝ) : EReal) := by
  simp [Ideal.ofBits, Ideal.ieee, -EReal.coe_mul]; norm_num
theorem word_256 : Ideal.ofBits .f32 0x43800000#32 = ((256 : ℝ) : EReal) := by
  simp [Ideal.ofBits, Ideal.ieee, -EReal.coe_mul]; norm_num
theorem word_2048 : Ideal.ofBits .f32 0x45000000#32 = ((2048 : ℝ) : EReal) := by
  simp [Ideal.ofBits, Ideal.ieee, -EReal.coe_mul]; norm_num
theorem word_4096 : Ideal.ofBits .f32 0x45800000#32 = ((4096 : ℝ) : EReal) := by
  simp [Ideal.ofBits, Ideal.ieee, -EReal.coe_mul]; norm_num
theorem word_8192 : Ideal.ofBits .f32 0x46000000#32 = ((8192 : ℝ) : EReal) := by
  simp [Ideal.ofBits, Ideal.ieee, -EReal.coe_mul]; norm_num
theorem word_tokens : Ideal.ofBits .f32 0x4B800000#32 = ((16777216 : ℝ) : EReal) := by
  simp [Ideal.ofBits, Ideal.ieee, -EReal.coe_mul]; norm_num
theorem word_neg_one : Ideal.ofBits .f32 0xBF800000#32 = ((-1 : ℝ) : EReal) := by
  simp [Ideal.ofBits, Ideal.ieee, -EReal.coe_mul]; norm_num

/-- The greatest entry, as a fold from minus infinity. -/
theorem fold_max_real (P : Fin 64 → ℝ) :
    Finset.univ.fold (max : EReal → EReal → EReal) ⊥ (fun e => ((P e : ℝ) : EReal)) = ((mx P : ℝ) : EReal) :=
  fold_absorb _ _ _ _ _ (first P) (Finset.mem_univ _) rfl (max_eq_left bot_le)
    fun e _ => max_eq_left (EReal.coe_le_coe_iff.mpr (le_first P e))

/-- The greatest of the row once its best is marked −1. -/
theorem fold_max_rest (P : Fin 64 → ℝ) (hP : ∀ e, 0 < P e) :
    Finset.univ.fold (max : EReal → EReal → EReal) ⊥
      (fun e => (((if e = first P then -1 else P e : ℝ)) : EReal)) = ((P (second P) : ℝ) : EReal) :=
  fold_absorb _ _ _ _ _ (second P) (Finset.mem_univ _) (by rw [if_neg (second_ne P)]) (max_eq_left bot_le)
    fun e _ => max_eq_left (EReal.coe_le_coe_iff.mpr (by
      split
      · have := hP (second P); linarith
      · next h => exact le_second P h))

theorem minsi_least {a b : ℕ} (h : a ≤ b) (hb : b < 2 ^ 31) :
    IntOp.minsi (BitVec.ofNat 32 a) (BitVec.ofNat 32 b) = BitVec.ofNat 32 a := by
  rw [PlanTiles.minsi_word (h.trans_lt hb) hb, min_eq_right h]

/-- The least number of the entries that equal the greatest, as the words' signed minimum. -/
theorem fold_min_first (P : Fin 64 → ℝ) :
    Finset.univ.fold IntOp.minsi 2147483647#32
      (fun e : Fin 64 => if P e = mx P then BitVec.ofNat 32 e.val else 64#32) = BitVec.ofNat 32 (first P).val := by
  have hlt := (first P).isLt
  refine fold_absorb _ _ _ _ _ (first P) (Finset.mem_univ _) (if_pos rfl) ?_ fun e _ => ?_
  · exact minsi_least (b := 2147483647) (by omega) (by norm_num)
  · by_cases h : P e = mx P
    · rw [if_pos h]
      exact minsi_least (Fin.le_def.mp (first_num_le P e h)) (by have := e.isLt; omega)
    · rw [if_neg h]
      exact minsi_least (b := 64) (by omega) (by norm_num)

/-- The least number of the others that equal their greatest. -/
theorem fold_min_second (P : Fin 64 → ℝ) (hP : ∀ e, 0 < P e) :
    Finset.univ.fold IntOp.minsi 2147483647#32
      (fun e : Fin 64 => if (if e = first P then -1 else P e) = P (second P) then BitVec.ofNat 32 e.val else 64#32)
      = BitVec.ofNat 32 (second P).val := by
  have hlt := (second P).isLt
  have hpos := hP (second P)
  refine fold_absorb _ _ _ _ _ (second P) (Finset.mem_univ _) (by rw [if_neg (second_ne P), if_pos rfl]) ?_ fun e _ => ?_
  · exact minsi_least (b := 2147483647) (by omega) (by norm_num)
  · by_cases he : e = first P
    · rw [if_pos he, if_neg (by linarith)]
      exact minsi_least (b := 64) (by omega) (by norm_num)
    · rw [if_neg he]
      by_cases h : P e = P (second P)
      · rw [if_pos h]
        exact minsi_least (Fin.le_def.mp (second_num_le P he h)) (by have := e.isLt; omega)
      · rw [if_neg h]
        exact minsi_least (b := 64) (by omega) (by norm_num)

/-! ### Sums taken in pieces -/

/-- A sum of 64 as eight slices of eight, then halves. -/
theorem sum64 {M : Type} [AddCommMonoid M] (f : Fin 64 → M) (g : ℕ → M) (h : ∀ e : Fin 64, f e = g e.val)
    (s : ℕ → M) (hs : ∀ r, s r = g r + g (8 + r) + g (16 + r) + g (24 + r) + g (32 + r) + g (40 + r) + g (48 + r) + g (56 + r)) :
    (s 0 + s 4 + (s 2 + s 6)) + (s 1 + s 5 + (s 3 + s 7)) = ∑ e, f e := by
  have h1 : ∑ e, f e = ∑ e ∈ Finset.range 64, g e := by
    rw [← Fin.sum_univ_eq_sum_range]; exact Finset.sum_congr rfl fun e _ => h e
  rw [h1]
  simp only [Finset.sum_range_succ, Finset.sum_range_zero, hs]
  abel

/-- A sum of 2048 as sixteen chunks of 128, taken lane by lane. -/
theorem sum2048 {M : Type} [AddCommMonoid M] (f : ℕ → M) :
    ∑ l : Fin 128, (f l.val + f (128 + l.val) + f (256 + l.val) + f (384 + l.val) + f (512 + l.val) + f (640 + l.val)
      + f (768 + l.val) + f (896 + l.val) + f (1024 + l.val) + f (1152 + l.val) + f (1280 + l.val) + f (1408 + l.val)
      + f (1536 + l.val) + f (1664 + l.val) + f (1792 + l.val) + f (1920 + l.val)) = ∑ n : Fin 2048, f n.val := by
  have h : ∀ k : ℕ, ∑ n ∈ Finset.range (128 * (k + 1)), f n
      = ∑ n ∈ Finset.range (128 * k), f n + ∑ l : Fin 128, f (128 * k + l.val) := fun k => by
    rw [Nat.mul_succ, Finset.sum_range_add, ← Fin.sum_univ_eq_sum_range (fun l => f (128 * k + l))]
  rw [Fin.sum_univ_eq_sum_range (fun n => f n) 2048]
  simp only [Finset.sum_add_distrib]
  rw [show (2048 : ℕ) = 128 * (15 + 1) from rfl, h, h 14, h 13, h 12, h 11, h 10, h 9, h 8, h 7, h 6, h 5, h 4, h 3, h 2, h 1, h 0]
  simp

end Cert.Proof.Route

end
-- ==== Proof.RouterOpen.lean ====
/-
  The values the router's grid points leave, as the body's own arithmetic: at each case of its conditionals, every
  block it writes and both scratch accumulators it hands to the next point, over the two input blocks and what the
  point found in the accumulators.
-/
module

public import proofs.«01_k».proof.Proof.Gen.RouterIdeal.Value

@[expose] public section

set_option maxRecDepth 16384

noncomputable section

namespace Cert.Proof.Route

open Cert.RouterIdeal Cert.RouterIdeal.Gen
open Idealize.ShloMosaic Idealize.ShloMosaic.TcCoe Idealize.ShloMosaic.Tactic
open Idealize.SL Idealize.SL.Sem

variable {F : FTy → Type} [FloatOps F]

/-- The rows' numbers. -/
def rowsIota : IVec S64x2048 32 := iota .tc S64x2048 32 [0] iota_S64x2048_d0_w32

/-- The two ones of every token's column. -/
def marks (x0 : Vec F S1x2048x2048 .f32) (x1 : Vec F S64x2048 .f32) : FVec F S64x2048 .f32 :=
  k0_pay34 (F := F) rowsIota (k0_pay24 (k0_pay16 x0 x1) (k0_pay17 x0 x1)) (k0_pay33 rowsIota (k0_pay21 (k0_pay16 x0 x1) (k0_pay17 x0 x1)))

/-- The marks folded to 128 lanes. -/
def marksFold (x0 : Vec F S1x2048x2048 .f32) (x1 : Vec F S64x2048 .f32) : FVec F S64x128 .f32 :=
  k0_pay3 (marks x0 x1)
    (k0_pay35 rowsIota (k0_pay24 (k0_pay16 x0 x1) (k0_pay17 x0 x1)) (k0_pay33 rowsIota (k0_pay21 (k0_pay16 x0 x1) (k0_pay17 x0 x1))))
    (k0_pay37 rowsIota (k0_pay24 (k0_pay16 x0 x1) (k0_pay17 x0 x1)) (k0_pay33 rowsIota (k0_pay21 (k0_pay16 x0 x1) (k0_pay17 x0 x1))))

/-- The probabilities folded to 128 lanes. -/
def probsFold (x0 : Vec F S1x2048x2048 .f32) (x1 : Vec F S64x2048 .f32) : FVec F S64x128 .f32 :=
  k0_pay4 (k0_pay19 (k0_pay16 x0 x1) (k0_pay17 x0 x1)) (k0_pay36 (k0_pay19 (k0_pay16 x0 x1) (k0_pay17 x0 x1)))

theorem h2z : (![0, 0] : Fin 2 → Nat) = fun _ => 0 := funext fun a => by fin_cases a <;> rfl
theorem h3z : (![0, 0, 0] : Fin 3 → Nat) = fun _ => 0 := funext fun a => by fin_cases a <;> rfl

/-- The one cell of a one-by-one block. -/
def cell : S1x1.Idx := Shape.Idx.first (by decide)

theorem eq_cell (j : S1x1.Idx) : j = cell :=
  funext fun a => by fin_cases a <;> exact Subsingleton.elim (α := Fin 1) _ _

theorem ld_cell (xs : Vec F S1x1 .f32) (j) :
    View.ld xs (Rect.unit ![0, 0] ![1, 1] inb_S1x1_S1x1_0_0) j = xs cell :=
  congrArg xs (eq_cell _)

section A
variable (c : Dev nD) (i : grid0.Coords) (arg2 : Memref sig .tc .vmem S1x2048x2048 .f32) (harg2 : arg2.IsWhole) (arg3 : Memref sig .tc .vmem S64x2048 .f32) (harg3 : arg3.IsWhole) (arg4 : Memref sig .tc .vmem S1x1x2048 .i32) (harg4 : arg4.IsWhole) (arg5 : Memref sig .tc .vmem S1x1x2048 .i32) (harg5 : arg5.IsWhole) (arg6 : Memref sig .tc .vmem S1x1x2048 .f32) (harg6 : arg6.IsWhole) (arg7 : Memref sig .tc .vmem S1x1x2048 .f32) (harg7 : arg7.IsWhole) (arg8 : Memref sig .tc .vmem S1x1x2048 .f32) (harg8 : arg8.IsWhole) (arg9 : Memref sig .tc .vmem S1x1x2048 .f32) (harg9 : arg9.IsWhole) (arg10 : Memref sig .tc .smem S1x1 .f32) (harg10 : arg10.IsWhole) (arg11 : Memref sig .tc .smem S1x1 .f32) (harg11 : arg11.IsWhole) (arg12 : Memref sig .tc .smem S1x1 .f32) (harg12 : arg12.IsWhole) (arg13 : Memref sig .tc .smem S1x1 .f32) (harg13 : arg13.IsWhole) (arg14 : Memref sig .tc .vmem S1x2048 .f32) (harg14 : arg14.IsWhole) (arg15 : Memref sig .tc .vmem S64x128 .f32) (harg15 : arg15.IsWhole) (arg16 : Memref sig .tc .vmem S64x128 .f32) (harg16 : arg16.IsWhole) (hc0 : cond0_0 i) (hc1 : cond0_1 i) (hc2 : ¬cond0_2 i) (hc3 : cond0_3 i) (hc4 : cond0_4 i) (hc5 : ¬cond0_5 i) (hc6 : ¬cond0_6 i)
  (x0 : Vec F S1x2048x2048 .f32) (x1 : Vec F S64x2048 .f32)

/-- The six rows of tokens that a point of this case writes. -/
theorem outA_rows :
    out0_A_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 hc4 hc5 hc6 x0 x1 = k0_pay25 (k0_pay16 x0 x1) (k0_pay17 x0 x1)
    ∧ out0_A_3 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 hc4 hc5 hc6 x0 x1 = k0_pay26 (k0_pay16 x0 x1) (k0_pay17 x0 x1)
    ∧ out0_A_4 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 hc4 hc5 hc6 x0 x1 = k0_pay27 (k0_pay21 (k0_pay16 x0 x1) (k0_pay17 x0 x1))
    ∧ out0_A_5 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 hc4 hc5 hc6 x0 x1 = k0_pay28 (k0_pay24 (k0_pay16 x0 x1) (k0_pay17 x0 x1))
    ∧ out0_A_6 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 hc4 hc5 hc6 x0 x1 = k0_pay29 (k0_pay20 (k0_pay16 x0 x1) (k0_pay17 x0 x1))
    ∧ out0_A_7 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 hc4 hc5 hc6 x0 x1 = k0_pay30 (k0_pay23 (k0_pay16 x0 x1) (k0_pay17 x0 x1)) := by
  unfold out0_A_2 out0_A_3 out0_A_4 out0_A_5 out0_A_6 out0_A_7
  refine ⟨(View.read_writes_eq_canon _ _ _ fun _ => cover0_A_2 ..).trans ?_,
    (View.read_writes_eq_canon _ _ _ fun _ => cover0_A_3 ..).trans ?_,
    (View.read_writes_eq_canon _ _ _ fun _ => cover0_A_4 ..).trans ?_,
    (View.read_writes_eq_canon _ _ _ fun _ => cover0_A_5 ..).trans ?_,
    (View.read_writes_eq_canon _ _ _ fun _ => cover0_A_6 ..).trans ?_,
    (View.read_writes_eq_canon _ _ _ fun _ => cover0_A_7 ..).trans ?_⟩
  all_goals
    unfold kernelRun0_A
    dsimp only
    sl_unfold_words
    rw [View.canon_unit_zero h3z]
    simp only [View.readAt_eq_ld, harg2.read_unread, harg3.read_unread, View.ld_unit_zero (S := S1x2048x2048) h3z, View.ld_unit_zero (S := S64x2048) h2z]

theorem soutA_1 : sout0_A_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 hc4 hc5 hc6 x0 x1 = fun _ => k0_pay7 (marksFold x0 x1) (probsFold x0 x1) := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 hc4 hc5 hc6 x0 x1)]
  unfold kernelRun0_A
  dsimp only
  sl_unfold_words
  rw [View.canon_unit_zero h2z]
  simp only [View.readAt_eq_ld, harg2.read_unread, harg3.read_unread, harg13.read_unread, harg14.read_unread, View.ld_unit_zero (S := S1x2048x2048) h3z, View.ld_unit_zero (S := S64x2048) h2z, View.ld_unit_zero (S := S1x2048) h2z, View.ld_unit_zero (S := S1x1) h2z, View.readCov_unit_zero (S := S64x128) _ h2z, View.readCov_unit_zero (S := S1x2048) _ h2z, View.readCov_unit_zero (S := S1x1) _ h2z]
  rfl

theorem soutA_2 : sout0_A_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 hc4 hc5 hc6 x0 x1 = k0_pay32 (k0_pay15 x0 x1) k0_pay31 := by
  unfold sout0_A_2
  rw [View.read_writes_eq_canon _ _ _ (scover0_A_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 hc4 hc5 hc6 x0 x1)]
  unfold kernelRun0_A
  dsimp only
  sl_unfold_words
  rw [View.canon_cons_unit_zero (S := S1x2048) h2z]
  simp only [View.readAt_eq_ld, harg2.read_unread, harg3.read_unread, harg13.read_unread, harg14.read_unread, View.ld_unit_zero (S := S1x2048x2048) h3z, View.ld_unit_zero (S := S64x2048) h2z, View.ld_unit_zero (S := S1x2048) h2z, View.ld_unit_zero (S := S1x1) h2z, View.readCov_unit_zero (S := S64x128) _ h2z, View.readCov_unit_zero (S := S1x2048) _ h2z, View.readCov_unit_zero (S := S1x1) _ h2z]

end A

section B
variable (c : Dev nD) (i : grid0.Coords) (arg2 : Memref sig .tc .vmem S1x2048x2048 .f32) (harg2 : arg2.IsWhole) (arg3 : Memref sig .tc .vmem S64x2048 .f32) (harg3 : arg3.IsWhole) (arg4 : Memref sig .tc .vmem S1x1x2048 .i32) (harg4 : arg4.IsWhole) (arg5 : Memref sig .tc .vmem S1x1x2048 .i32) (harg5 : arg5.IsWhole) (arg6 : Memref sig .tc .vmem S1x1x2048 .f32) (harg6 : arg6.IsWhole) (arg7 : Memref sig .tc .vmem S1x1x2048 .f32) (harg7 : arg7.IsWhole) (arg8 : Memref sig .tc .vmem S1x1x2048 .f32) (harg8 : arg8.IsWhole) (arg9 : Memref sig .tc .vmem S1x1x2048 .f32) (harg9 : arg9.IsWhole) (arg10 : Memref sig .tc .smem S1x1 .f32) (harg10 : arg10.IsWhole) (arg11 : Memref sig .tc .smem S1x1 .f32) (harg11 : arg11.IsWhole) (arg12 : Memref sig .tc .smem S1x1 .f32) (harg12 : arg12.IsWhole) (arg13 : Memref sig .tc .smem S1x1 .f32) (harg13 : arg13.IsWhole) (arg14 : Memref sig .tc .vmem S1x2048 .f32) (harg14 : arg14.IsWhole) (arg15 : Memref sig .tc .vmem S64x128 .f32) (harg15 : arg15.IsWhole) (arg16 : Memref sig .tc .vmem S64x128 .f32) (harg16 : arg16.IsWhole) (hc0 : ¬cond0_0 i) (hc1 : cond0_1 i) (hc2 : ¬cond0_2 i) (hc3 : cond0_3 i) (hc4 : ¬cond0_4 i) (hc5 : cond0_5 i) (hc6 : ¬cond0_6 i)
  (x0 : Vec F S1x2048x2048 .f32) (x1 : Vec F S64x2048 .f32) (xs1 : Vec F S1x1 .f32) (xs2 : Vec F S1x2048 .f32)

/-- The six rows of tokens that a point of this case writes. -/
theorem outB_rows :
    out0_B_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 hc4 hc5 hc6 x0 x1 xs1 xs2 = k0_pay25 (k0_pay16 x0 x1) (k0_pay17 x0 x1)
    ∧ out0_B_3 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 hc4 hc5 hc6 x0 x1 xs1 xs2 = k0_pay26 (k0_pay16 x0 x1) (k0_pay17 x0 x1)
    ∧ out0_B_4 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 hc4 hc5 hc6 x0 x1 xs1 xs2 = k0_pay27 (k0_pay21 (k0_pay16 x0 x1) (k0_pay17 x0 x1))
    ∧ out0_B_5 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 hc4 hc5 hc6 x0 x1 xs1 xs2 = k0_pay28 (k0_pay24 (k0_pay16 x0 x1) (k0_pay17 x0 x1))
    ∧ out0_B_6 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 hc4 hc5 hc6 x0 x1 xs1 xs2 = k0_pay29 (k0_pay20 (k0_pay16 x0 x1) (k0_pay17 x0 x1))
    ∧ out0_B_7 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 hc4 hc5 hc6 x0 x1 xs1 xs2 = k0_pay30 (k0_pay23 (k0_pay16 x0 x1) (k0_pay17 x0 x1)) := by
  unfold out0_B_2 out0_B_3 out0_B_4 out0_B_5 out0_B_6 out0_B_7
  refine ⟨(View.read_writes_eq_canon _ _ _ fun _ => cover0_B_2 ..).trans ?_,
    (View.read_writes_eq_canon _ _ _ fun _ => cover0_B_3 ..).trans ?_,
    (View.read_writes_eq_canon _ _ _ fun _ => cover0_B_4 ..).trans ?_,
    (View.read_writes_eq_canon _ _ _ fun _ => cover0_B_5 ..).trans ?_,
    (View.read_writes_eq_canon _ _ _ fun _ => cover0_B_6 ..).trans ?_,
    (View.read_writes_eq_canon _ _ _ fun _ => cover0_B_7 ..).trans ?_⟩
  all_goals
    unfold kernelRun0_B
    dsimp only
    sl_unfold_words
    rw [View.canon_unit_zero h3z]
    simp only [View.readAt_eq_ld, harg2.read_unread, harg3.read_unread, View.ld_unit_zero (S := S1x2048x2048) h3z, View.ld_unit_zero (S := S64x2048) h2z]

theorem soutB_1 : sout0_B_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 hc4 hc5 hc6 x0 x1 xs1 xs2 = fun _ => k0_pay8 (marksFold x0 x1) (probsFold x0 x1) (xs1 cell) := by
  unfold sout0_B_1
  rw [View.read_writes_eq_canon _ _ _ (scover0_B_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 hc4 hc5 hc6 x0 x1 xs1 xs2)]
  unfold kernelRun0_B
  dsimp only
  sl_unfold_words
  rw [View.canon_unit_zero h2z]
  simp only [View.readAt_eq_ld, harg2.read_unread, harg3.read_unread, harg13.read_unread, harg14.read_unread, View.ld_unit_zero (S := S1x2048x2048) h3z, View.ld_unit_zero (S := S64x2048) h2z, View.ld_unit_zero (S := S1x2048) h2z, View.ld_unit_zero (S := S1x1) h2z, View.readCov_unit_zero (S := S64x128) _ h2z, View.readCov_unit_zero (S := S1x2048) _ h2z, View.readCov_unit_zero (S := S1x1) _ h2z]
  exact funext fun _ => congrArg (k0_pay8 (marksFold x0 x1) (probsFold x0 x1)) (ld_cell xs1 _)

theorem soutB_2 : sout0_B_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 hc4 hc5 hc6 x0 x1 xs1 xs2 = k0_pay32 (k0_pay15 x0 x1) xs2 := by
  unfold sout0_B_2
  rw [View.read_writes_eq_canon _ _ _ (scover0_B_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 hc4 hc5 hc6 x0 x1 xs1 xs2)]
  unfold kernelRun0_B
  dsimp only
  sl_unfold_words
  rw [View.canon_cons_unit_zero (S := S1x2048) h2z]
  simp only [View.readAt_eq_ld, harg2.read_unread, harg3.read_unread, harg13.read_unread, harg14.read_unread, View.ld_unit_zero (S := S1x2048x2048) h3z, View.ld_unit_zero (S := S64x2048) h2z, View.ld_unit_zero (S := S1x2048) h2z, View.ld_unit_zero (S := S1x1) h2z, View.readCov_unit_zero (S := S64x128) _ h2z, View.readCov_unit_zero (S := S1x2048) _ h2z, View.readCov_unit_zero (S := S1x1) _ h2z]

end B

section C
variable (c : Dev nD) (i : grid0.Coords) (arg2 : Memref sig .tc .vmem S1x2048x2048 .f32) (harg2 : arg2.IsWhole) (arg3 : Memref sig .tc .vmem S64x2048 .f32) (harg3 : arg3.IsWhole) (arg4 : Memref sig .tc .vmem S1x1x2048 .i32) (harg4 : arg4.IsWhole) (arg5 : Memref sig .tc .vmem S1x1x2048 .i32) (harg5 : arg5.IsWhole) (arg6 : Memref sig .tc .vmem S1x1x2048 .f32) (harg6 : arg6.IsWhole) (arg7 : Memref sig .tc .vmem S1x1x2048 .f32) (harg7 : arg7.IsWhole) (arg8 : Memref sig .tc .vmem S1x1x2048 .f32) (harg8 : arg8.IsWhole) (arg9 : Memref sig .tc .vmem S1x1x2048 .f32) (harg9 : arg9.IsWhole) (arg10 : Memref sig .tc .smem S1x1 .f32) (harg10 : arg10.IsWhole) (arg11 : Memref sig .tc .smem S1x1 .f32) (harg11 : arg11.IsWhole) (arg12 : Memref sig .tc .smem S1x1 .f32) (harg12 : arg12.IsWhole) (arg13 : Memref sig .tc .smem S1x1 .f32) (harg13 : arg13.IsWhole) (arg14 : Memref sig .tc .vmem S1x2048 .f32) (harg14 : arg14.IsWhole) (arg15 : Memref sig .tc .vmem S64x128 .f32) (harg15 : arg15.IsWhole) (arg16 : Memref sig .tc .vmem S64x128 .f32) (harg16 : arg16.IsWhole) (hc0 : ¬cond0_0 i) (hc1 : cond0_1 i) (hc2 : ¬cond0_2 i) (hc3 : cond0_3 i) (hc4 : ¬cond0_4 i) (hc5 : cond0_5 i) (hc6 : cond0_6 i)
  (x0 : Vec F S1x2048x2048 .f32) (x1 : Vec F S64x2048 .f32) (xs1 : Vec F S1x1 .f32) (xs2 : Vec F S1x2048 .f32)

/-- The six rows of tokens that a point of this case writes. -/
theorem outC_rows :
    out0_C_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 hc4 hc5 hc6 x0 x1 xs1 xs2 = k0_pay25 (k0_pay16 x0 x1) (k0_pay17 x0 x1)
    ∧ out0_C_3 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 hc4 hc5 hc6 x0 x1 xs1 xs2 = k0_pay26 (k0_pay16 x0 x1) (k0_pay17 x0 x1)
    ∧ out0_C_4 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 hc4 hc5 hc6 x0 x1 xs1 xs2 = k0_pay27 (k0_pay21 (k0_pay16 x0 x1) (k0_pay17 x0 x1))
    ∧ out0_C_5 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 hc4 hc5 hc6 x0 x1 xs1 xs2 = k0_pay28 (k0_pay24 (k0_pay16 x0 x1) (k0_pay17 x0 x1))
    ∧ out0_C_6 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 hc4 hc5 hc6 x0 x1 xs1 xs2 = k0_pay29 (k0_pay20 (k0_pay16 x0 x1) (k0_pay17 x0 x1))
    ∧ out0_C_7 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 hc4 hc5 hc6 x0 x1 xs1 xs2 = k0_pay30 (k0_pay23 (k0_pay16 x0 x1) (k0_pay17 x0 x1)) := by
  unfold out0_C_2 out0_C_3 out0_C_4 out0_C_5 out0_C_6 out0_C_7
  refine ⟨(View.read_writes_eq_canon _ _ _ fun _ => cover0_C_2 ..).trans ?_,
    (View.read_writes_eq_canon _ _ _ fun _ => cover0_C_3 ..).trans ?_,
    (View.read_writes_eq_canon _ _ _ fun _ => cover0_C_4 ..).trans ?_,
    (View.read_writes_eq_canon _ _ _ fun _ => cover0_C_5 ..).trans ?_,
    (View.read_writes_eq_canon _ _ _ fun _ => cover0_C_6 ..).trans ?_,
    (View.read_writes_eq_canon _ _ _ fun _ => cover0_C_7 ..).trans ?_⟩
  all_goals
    unfold kernelRun0_C
    dsimp only
    sl_unfold_words
    rw [View.canon_unit_zero h3z]
    simp only [View.readAt_eq_ld, harg2.read_unread, harg3.read_unread, View.ld_unit_zero (S := S1x2048x2048) h3z, View.ld_unit_zero (S := S64x2048) h2z]

theorem soutC_1 : sout0_C_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 hc4 hc5 hc6 x0 x1 xs1 xs2 = fun _ => k0_pay8 (marksFold x0 x1) (probsFold x0 x1) (xs1 cell) := by
  unfold sout0_C_1
  rw [View.read_writes_eq_canon _ _ _ (scover0_C_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 hc4 hc5 hc6 x0 x1 xs1 xs2)]
  unfold kernelRun0_C
  dsimp only
  sl_unfold_words
  rw [View.canon_unit_zero h2z]
  simp only [View.readAt_eq_ld, harg2.read_unread, harg3.read_unread, harg13.read_unread, harg14.read_unread, View.ld_unit_zero (S := S1x2048x2048) h3z, View.ld_unit_zero (S := S64x2048) h2z, View.ld_unit_zero (S := S1x2048) h2z, View.ld_unit_zero (S := S1x1) h2z, View.readCov_unit_zero (S := S64x128) _ h2z, View.readCov_unit_zero (S := S1x2048) _ h2z, View.readCov_unit_zero (S := S1x1) _ h2z]
  exact funext fun _ => congrArg (k0_pay8 (marksFold x0 x1) (probsFold x0 x1)) (ld_cell xs1 _)

theorem soutC_2 : sout0_C_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 hc4 hc5 hc6 x0 x1 xs1 xs2 = k0_pay32 (k0_pay15 x0 x1) xs2 := by
  unfold sout0_C_2
  rw [View.read_writes_eq_canon _ _ _ (scover0_C_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 hc4 hc5 hc6 x0 x1 xs1 xs2)]
  unfold kernelRun0_C
  dsimp only
  sl_unfold_words
  rw [View.canon_cons_unit_zero (S := S1x2048) h2z]
  simp only [View.readAt_eq_ld, harg2.read_unread, harg3.read_unread, harg13.read_unread, harg14.read_unread, View.ld_unit_zero (S := S1x2048x2048) h3z, View.ld_unit_zero (S := S64x2048) h2z, View.ld_unit_zero (S := S1x2048) h2z, View.ld_unit_zero (S := S1x1) h2z, View.readCov_unit_zero (S := S64x128) _ h2z, View.readCov_unit_zero (S := S1x2048) _ h2z, View.readCov_unit_zero (S := S1x1) _ h2z]

theorem outC_8 : out0_C_8 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 hc4 hc5 hc6 x0 x1 xs1 xs2 = fun _ => k0_pay9 (k0_pay32 (k0_pay15 x0 x1) xs2) := by
  unfold out0_C_8
  rw [View.read_writes_eq_canon _ _ _ (cover0_C_8 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 hc4 hc5 hc6 x0 x1 xs1 xs2)]
  unfold kernelRun0_C
  dsimp only
  sl_unfold_words
  rw [View.canon_unit_zero h2z]
  simp only [View.readAt_eq_ld, harg2.read_unread, harg3.read_unread, harg13.read_unread, harg14.read_unread, View.ld_unit_zero (S := S1x2048x2048) h3z, View.ld_unit_zero (S := S64x2048) h2z, View.ld_unit_zero (S := S1x2048) h2z, View.ld_unit_zero (S := S1x1) h2z, View.readCov_unit_zero (S := S64x128) _ h2z, View.readCov_unit_zero (S := S1x2048) _ h2z, View.readCov_unit_zero (S := S1x1) _ h2z]
  rfl

theorem outC_9 : out0_C_9 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 hc4 hc5 hc6 x0 x1 xs1 xs2 = fun _ => k0_pay10 (k0_pay8 (marksFold x0 x1) (probsFold x0 x1) (xs1 cell)) := by
  unfold out0_C_9
  rw [View.read_writes_eq_canon _ _ _ (cover0_C_9 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 hc4 hc5 hc6 x0 x1 xs1 xs2)]
  unfold kernelRun0_C
  dsimp only
  sl_unfold_words
  rw [View.canon_unit_zero h2z]
  simp only [View.readAt_eq_ld, harg2.read_unread, harg3.read_unread, harg13.read_unread, harg14.read_unread, View.ld_unit_zero (S := S1x2048x2048) h3z, View.ld_unit_zero (S := S64x2048) h2z, View.ld_unit_zero (S := S1x2048) h2z, View.ld_unit_zero (S := S1x1) h2z, View.readCov_unit_zero (S := S64x128) _ h2z, View.readCov_unit_zero (S := S1x2048) _ h2z, View.readCov_unit_zero (S := S1x1) _ h2z]
  exact funext fun _ => congrArg (fun v => k0_pay10 (k0_pay8 (marksFold x0 x1) (probsFold x0 x1) v)) (ld_cell xs1 _)

end C

end Cert.Proof.Route

end
-- ==== Proof.RouterPay.lean ====
/-
  The router's arithmetic at one grid point, read at an index when the token block and the gate's block hold reals:
  each payload's element is the corresponding quantity of the token's logits.
-/
module

public import proofs.«01_k».proof.Proof.RouterMath
public import proofs.«01_k».proof.Proof.RouterOpen
public import Idealize.ShloMosaic.Lib.Pointwise.Tactic
public import Idealize.ShloMosaic.Lib.Pointwise.Reshape
public import Idealize.ShloMosaic.Lib.Pointwise.IndexVar
public import Idealize.ShloMosaic.Lib.Pointwise.Sums
public import Idealize.ShloMosaic.Lib.Pointwise.Reduce
public import Idealize.ShloMosaic.Lib.Pointwise.Select

@[expose] public section

noncomputable section

namespace Cert.Proof.Route

open Cert.RouterIdeal Cert.RouterIdeal.Gen
open Idealize.ShloMosaic

/-- A choice by whether two experts' numbers are the same word is a choice by whether they are the same expert. -/
theorem select_word {α : Type} (e a : Fin 64) (x y : α) :
    Scalar.select (IntOp.cmpi .eq (BitVec.ofNat 32 e.val) (BitVec.ofNat 32 a.val)) x y = if e = a then x else y := by
  by_cases h : e = a
  · subst h
    simp [Scalar.select, IntOp.cmpi]
  · have hne : BitVec.ofNat 32 e.val ≠ BitVec.ofNat 32 a.val := fun hw => h (Fin.ext (by
      have := congrArg BitVec.toNat hw
      simp only [BitVec.toNat_ofNat] at this
      have := a.isLt; have := e.isLt
      omega))
    have hb : (BitVec.ofNat 32 e.val == BitVec.ofNat 32 a.val) = false := beq_eq_false_iff_ne.mpr hne
    simp [Scalar.select, IntOp.cmpi, hb, h]

section
variable (x0 : Vec Ideal S1x2048x2048 .f32) (x1 : Vec Ideal S64x2048 .f32)
  (L : Fin 2048 → Fin 64 → ℝ) (Y : Fin 2048 → Fin 2048 → ℝ) (W : Fin 2048 → Fin 64 → ℝ)
  (hx0 : ∀ n d, x0 (ix3 0 n d) = ((Y n d : ℝ) : EReal)) (hx1 : ∀ e d, x1 (ix2 e d) = ((W d e : ℝ) : EReal))
  (hL : ∀ n e, L n e = ∑ d, Y n d * W d e)
include hx0 hx1 hL

theorem pay11_real (e : Fin 64) (n : Fin 2048) : k0_pay11 (F := Ideal) x0 x1 (ix2 e n) = ((L n e : ℝ) : EReal) := by
  unfold k0_pay11
  pointwise
  rw [hL, ← coe_sum]
  refine Finset.sum_congr rfl fun d _ => ?_
  rw [hx0, hx1, mul_comm, EReal.coe_mul]

theorem pay12_real (n : Fin 2048) : k0_pay12 (F := Ideal) x0 x1 (ix2 0 n) = ((mx (L n) : ℝ) : EReal) := by
  unfold k0_pay12
  pointwise
  simp only [pay11_real x0 x1 L Y W hx0 hx1 hL]
  rw [word_ninf]
  exact fold_max_real _

theorem pay13_real (e : Fin 64) (n : Fin 2048) : k0_pay13 (F := Ideal) x0 x1 (ix2 e n) = ((ex (L n) e : ℝ) : EReal) := by
  unfold k0_pay13
  pointwise
  rw [pay11_real x0 x1 L Y W hx0 hx1 hL, pay12_real x0 x1 L Y W hx0 hx1 hL, ← EReal.coe_sub, Ideal.exp_coe]
  rfl

omit hx0 hx1 hL in
/-- A column's sum as the kernel takes it: eight slices of eight rows, then halves. -/
theorem column_sum (v : FVec Ideal S64x2048 .f32) (n : Fin 2048) (s : ℕ → EReal)
    (hs : ∀ r, s r = v (ix2 (Fin.ofNat 64 r) n) + v (ix2 (Fin.ofNat 64 (8 + r)) n) + v (ix2 (Fin.ofNat 64 (16 + r)) n)
      + v (ix2 (Fin.ofNat 64 (24 + r)) n) + v (ix2 (Fin.ofNat 64 (32 + r)) n) + v (ix2 (Fin.ofNat 64 (40 + r)) n)
      + v (ix2 (Fin.ofNat 64 (48 + r)) n) + v (ix2 (Fin.ofNat 64 (56 + r)) n)) :
    (s 0 + s 4 + (s 2 + s 6)) + (s 1 + s 5 + (s 3 + s 7)) = ∑ e, v (ix2 e n) :=
  sum64 (fun e => v (ix2 e n)) (fun k => v (ix2 (Fin.ofNat 64 k) n))
    (fun e => congrArg (fun k => v (ix2 k n)) (Fin.ext (Nat.mod_eq_of_lt e.isLt).symm)) s hs

theorem pay14_real (n : Fin 2048) : k0_pay14 (F := Ideal) x0 x1 (ix2 0 n) = ((sm (L n) : ℝ) : EReal) := by
  have h : k0_pay14 (F := Ideal) x0 x1 (ix2 0 n) = ∑ e, k0_pay13 (F := Ideal) x0 x1 (ix2 e n) := by
    unfold k0_pay14
    generalize k0_pay13 (F := Ideal) x0 x1 = v
    pointwise
    exact column_sum v n _ fun _ => rfl
  rw [h]
  simp only [pay13_real x0 x1 L Y W hx0 hx1 hL, coe_sum]
  rfl

theorem pay15_real (n : Fin 2048) : k0_pay15 (F := Ideal) x0 x1 (ix2 0 n) = ((lse (L n) : ℝ) : EReal) := by
  unfold k0_pay15
  pointwise
  rw [pay12_real x0 x1 L Y W hx0 hx1 hL, pay14_real x0 x1 L Y W hx0 hx1 hL, log_real _ (sm_pos _), ← EReal.coe_add]
  rfl

theorem pay16_real (e : Fin 64) (n : Fin 2048) :
    k0_pay16 (F := Ideal) x0 x1 (ix2 e n) = ((ex (soft (L n)) e : ℝ) : EReal) := by
  unfold k0_pay16
  pointwise
  rw [pay13_real x0 x1 L Y W hx0 hx1 hL, pay14_real x0 x1 L Y W hx0 hx1 hL, div_real _ _ (sm_pos _).ne', ← EReal.coe_one,
    div_real _ _ (sm_pos _).ne', ← EReal.coe_sub, Ideal.exp_coe]
  unfold ex
  rw [mx_soft]
  rfl

theorem pay18_real (n : Fin 2048) :
    k0_pay18 (F := Ideal) (k0_pay16 x0 x1) (k0_pay17 x0 x1) (ix2 0 n) = ((sm (soft (L n)) : ℝ) : EReal) := by
  have h : k0_pay18 (F := Ideal) (k0_pay16 x0 x1) (k0_pay17 x0 x1) (ix2 0 n) = ∑ e, k0_pay16 (F := Ideal) x0 x1 (ix2 e n) := by
    unfold k0_pay18 k0_pay17
    generalize k0_pay16 (F := Ideal) x0 x1 = v
    pointwise
    exact column_sum v n _ fun _ => rfl
  rw [h]
  simp only [pay16_real x0 x1 L Y W hx0 hx1 hL, coe_sum]
  rfl

theorem pay19_real (e : Fin 64) (n : Fin 2048) :
    k0_pay19 (F := Ideal) (k0_pay16 x0 x1) (k0_pay17 x0 x1) (ix2 e n) = ((probs (L n) e : ℝ) : EReal) := by
  unfold k0_pay19
  pointwise
  rw [pay16_real x0 x1 L Y W hx0 hx1 hL, pay18_real x0 x1 L Y W hx0 hx1 hL, div_real _ _ (sm_pos _).ne']
  rfl

theorem pay20_real (n : Fin 2048) :
    k0_pay20 (F := Ideal) (k0_pay16 x0 x1) (k0_pay17 x0 x1) (ix2 0 n) = ((mx (probs (L n)) : ℝ) : EReal) := by
  unfold k0_pay20
  pointwise
  rw [pay18_real x0 x1 L Y W hx0 hx1 hL, ← EReal.coe_one, div_real _ _ (sm_pos _).ne', mx_probs]

theorem pay21_real (n : Fin 2048) :
    k0_pay21 (F := Ideal) (k0_pay16 x0 x1) (k0_pay17 x0 x1) (ix1 n) = BitVec.ofNat 32 (first (probs (L n))).val := by
  unfold k0_pay21
  pointwise
  simp only [pay19_real x0 x1 L Y W hx0 hx1 hL, pay20_real x0 x1 L Y W hx0 hx1 hL]
  refine (Finset.fold_congr fun e _ => ?_).trans (fold_min_first (probs (L n)))
  by_cases h : probs (L n) e = mx (probs (L n))
  · rw [if_pos h, if_pos (by rw [h])]
  · rw [if_neg h, if_neg fun h' => h (EReal.coe_eq_coe_iff.mp h')]

theorem pay22_real (e : Fin 64) (n : Fin 2048) :
    k0_pay22 (F := Ideal) (k0_pay16 x0 x1) (k0_pay17 x0 x1) (ix2 e n)
      = (((if e = first (probs (L n)) then -1 else probs (L n) e : ℝ)) : EReal) := by
  unfold k0_pay22
  pointwise
  rw [pay21_real x0 x1 L Y W hx0 hx1 hL, pay19_real x0 x1 L Y W hx0 hx1 hL]
  rw [select_word, word_neg_one]
  split <;> rfl

theorem pay23_real (n : Fin 2048) :
    k0_pay23 (F := Ideal) (k0_pay16 x0 x1) (k0_pay17 x0 x1) (ix2 0 n)
      = ((probs (L n) (second (probs (L n))) : ℝ) : EReal) := by
  unfold k0_pay23
  pointwise
  simp only [pay22_real x0 x1 L Y W hx0 hx1 hL]
  rw [word_ninf]
  exact fold_max_rest _ (probs_pos _)

theorem pay24_real (n : Fin 2048) :
    k0_pay24 (F := Ideal) (k0_pay16 x0 x1) (k0_pay17 x0 x1) (ix1 n) = BitVec.ofNat 32 (second (probs (L n))).val := by
  unfold k0_pay24
  pointwise
  simp only [pay22_real x0 x1 L Y W hx0 hx1 hL, pay23_real x0 x1 L Y W hx0 hx1 hL]
  refine (Finset.fold_congr fun e _ => ?_).trans (fold_min_second (probs (L n)) (probs_pos _))
  by_cases h : (if e = first (probs (L n)) then -1 else probs (L n) e) = probs (L n) (second (probs (L n)))
  · rw [if_pos h, if_pos (by rw [h])]
  · rw [if_neg h, if_neg fun h' => h (EReal.coe_eq_coe_iff.mp h')]

theorem marks_real (e : Fin 64) (n : Fin 2048) : marks (F := Ideal) x0 x1 (ix2 e n) = ((mark (L n) e : ℝ) : EReal) := by
  unfold marks k0_pay34 k0_pay33 rowsIota
  pointwise
  simp only [pay21_real x0 x1 L Y W hx0 hx1 hL, pay24_real x0 x1 L Y W hx0 hx1 hL]
  rw [select_word, select_word]
  unfold mark
  rw [EReal.coe_add]
  split <;> split <;> simp

omit hx0 hx1 hL in
theorem fold_lanes (v : FVec Ideal S64x2048 .f32) (e : Fin 64) :
    ∑ l : Fin 128, k0_pay4 (F := Ideal) v (k0_pay36 v) (ix2 e l) = ∑ n : Fin 2048, v (ix2 e n) := by
  unfold k0_pay4 k0_pay2 k0_pay36
  pointwise
  obtain ⟨f, hf⟩ : ∃ f : ℕ → EReal, ∀ (k : ℕ) (h : k < 2048), v (ix2 e ⟨k, h⟩) = f k :=
    ⟨fun k => v (ix2 e (Fin.ofNat 2048 k)), fun k h => congrArg (fun z => v (ix2 e z)) (Fin.ext (Nat.mod_eq_of_lt h).symm)⟩
  simp only [hf]
  rw [sum2048 f]

theorem probsFold_sum (e : Fin 64) :
    ∑ l : Fin 128, probsFold (F := Ideal) x0 x1 (ix2 e l) = ((∑ n, probs (L n) e : ℝ) : EReal) := by
  unfold probsFold
  rw [fold_lanes, ← coe_sum]
  exact Finset.sum_congr rfl fun n _ => pay19_real x0 x1 L Y W hx0 hx1 hL e n

theorem marksFold_sum (e : Fin 64) :
    ∑ l : Fin 128, marksFold (F := Ideal) x0 x1 (ix2 e l) = ((∑ n, mark (L n) e : ℝ) : EReal) := by
  have h : marksFold (F := Ideal) x0 x1 = k0_pay4 (marks x0 x1) (k0_pay36 (marks x0 x1)) := rfl
  rw [h, fold_lanes, ← coe_sum]
  exact Finset.sum_congr rfl fun n _ => marks_real x0 x1 L Y W hx0 hx1 hL e n

/-- What a grid point adds to the balance loss. -/
theorem pay7_real : k0_pay7 (F := Ideal) (marksFold x0 x1) (probsFold x0 x1)
    = ((∑ e : Fin 64, (∑ n, mark (L n) e) * (∑ n, probs (L n) e) : ℝ) : EReal) := by
  have h : k0_pay7 (F := Ideal) (marksFold x0 x1) (probsFold x0 x1)
      = ∑ e : Fin 64, (∑ l : Fin 128, marksFold (F := Ideal) x0 x1 (ix2 e l)) * (∑ l : Fin 128, probsFold (F := Ideal) x0 x1 (ix2 e l)) := by
    generalize marksFold (F := Ideal) x0 x1 = u
    generalize probsFold (F := Ideal) x0 x1 = v
    unfold k0_pay7
    pointwise
  rw [h, ← coe_sum]
  refine Finset.sum_congr rfl fun e _ => ?_
  rw [marksFold_sum x0 x1 L Y W hx0 hx1 hL, probsFold_sum x0 x1 L Y W hx0 hx1 hL, ← EReal.coe_mul]

/-- The square of a token's log-sum-exp, added to what stood. -/
theorem pay32_real (xs : Vec Ideal S1x2048 .f32) (n : Fin 2048) : k0_pay32 (F := Ideal) (k0_pay15 x0 x1) xs (ix2 0 n)
    = xs (ix2 0 n) + ((lse (L n) * lse (L n) : ℝ) : EReal) := by
  unfold k0_pay32
  pointwise
  rw [pay15_real x0 x1 L Y W hx0 hx1 hL, ← EReal.coe_mul]

end

theorem pay31_real (n : Fin 2048) : k0_pay31 (F := Ideal) (ix2 0 n) = 0 := by
  unfold k0_pay31
  pointwise

theorem pay9_real (v : Vec Ideal S1x2048 .f32) (z : Fin 2048 → ℝ) (h : ∀ n, v (ix2 0 n) = ((z n : ℝ) : EReal)) :
    k0_pay9 (F := Ideal) v = (((∑ n, z n) / 8192 : ℝ) : EReal) := by
  unfold k0_pay9
  pointwise
  simp only [h, coe_sum]
  rw [word_8192, div_real _ _ (by norm_num)]
  simp

theorem pay10_real (a : ℝ) : k0_pay10 (F := Ideal) ((a : ℝ) : EReal) = ((a * 64 / 16777216 : ℝ) : EReal) := by
  unfold k0_pay10
  pointwise
  rw [word_64, word_tokens, ← EReal.coe_mul, div_real _ _ (by norm_num)]

end Cert.Proof.Route
-- ==== Proof.RouterKernel.lean ====
/-
  The router's TensorCore call, its eight result arrays: each of the four grid points routes one batch row of tokens,
  the balance and z-loss sums are carried from point to point in scratch and written out at the last one.
-/
module

public import proofs.«01_k».proof.Proof.RouterPay
public import proofs.«01_k».proof.Proof.Gen.RouterIdeal.Value
public import Idealize.ShloMosaic.Lib.Pipeline.Value
public import Idealize.ShloMosaic.Lib.Pipeline.ValueKit
public import Idealize.ShloMosaic.Lib.Tactic

@[expose] public section

noncomputable section

namespace Cert.Proof.Route

open Cert.RouterIdeal Cert.RouterIdeal.Gen Cert.RouterIdeal.Value
open Idealize.ShloMosaic Idealize.ShloMosaic.TcCoe Idealize.SL.Sem
open Idealize.ShloMosaic.Pipeline (Dat)

/-! ### The small payloads: reshapes of a row of tokens -/

theorem pay25_at (u : FVec Ideal S64x2048 .f32) (v : FVec Ideal S8x2048 .f32) (n : Fin 2048) :
    k0_pay25 (F := Ideal) u v (ix3 0 0 n) = k0_pay21 u v (ix1 n) := by
  unfold k0_pay25
  generalize k0_pay21 u v = r
  pointwise

theorem pay26_at (u : FVec Ideal S64x2048 .f32) (v : FVec Ideal S8x2048 .f32) (n : Fin 2048) :
    k0_pay26 (F := Ideal) u v (ix3 0 0 n) = k0_pay24 u v (ix1 n) := by
  unfold k0_pay26
  generalize k0_pay24 u v = r
  pointwise

theorem pay27_at (r : IVec S2048 32) (n : Fin 2048) :
    k0_pay27 (F := Ideal) r (ix3 0 0 n) = FloatOps.sitofp (F := Ideal) .f32 (r (ix1 n)) := by
  unfold k0_pay27
  pointwise

theorem pay28_at (r : IVec S2048 32) (n : Fin 2048) :
    k0_pay28 (F := Ideal) r (ix3 0 0 n) = FloatOps.sitofp (F := Ideal) .f32 (r (ix1 n)) := by
  unfold k0_pay28
  pointwise

theorem pay29_at (r : FVec Ideal S1x2048 .f32) (n : Fin 2048) :
    k0_pay29 (F := Ideal) r (ix3 0 0 n) = r (ix2 0 n) := by
  unfold k0_pay29
  pointwise

theorem pay30_at (r : FVec Ideal S1x2048 .f32) (n : Fin 2048) :
    k0_pay30 (F := Ideal) r (ix3 0 0 n) = r (ix2 0 n) := by
  unfold k0_pay30
  pointwise

theorem pay8_add (u v : FVec Ideal S64x128 .f32) (a : EReal) :
    k0_pay8 (F := Ideal) u v a = a + k0_pay7 (F := Ideal) u v := rfl

/-! ### What each point leaves -/

section
variable (m : (ℓ : Loc nD τ sig) → Buf (Elt Ideal) ℓ) (c : Dev nD)

theorem lt4 (t : Fin cfg0.N) : t.val < 4 := lt_of_lt_of_eq t.isLt N_0

/-- The six rows of tokens that every point leaves. -/
theorem left_rows (t : Fin cfg0.N) :
    (outsAt0 m c t.val t.isLt).1 = k0_pay25 (k0_pay16 (iblk m c 0 t) (iblk m c 1 t)) (k0_pay17 (iblk m c 0 t) (iblk m c 1 t))
    ∧ (outsAt0 m c t.val t.isLt).2.1 = k0_pay26 (k0_pay16 (iblk m c 0 t) (iblk m c 1 t)) (k0_pay17 (iblk m c 0 t) (iblk m c 1 t))
    ∧ (outsAt0 m c t.val t.isLt).2.2.1 = k0_pay27 (F := Ideal) (k0_pay21 (k0_pay16 (iblk m c 0 t) (iblk m c 1 t)) (k0_pay17 (iblk m c 0 t) (iblk m c 1 t)))
    ∧ (outsAt0 m c t.val t.isLt).2.2.2.1 = k0_pay28 (F := Ideal) (k0_pay24 (k0_pay16 (iblk m c 0 t) (iblk m c 1 t)) (k0_pay17 (iblk m c 0 t) (iblk m c 1 t)))
    ∧ (outsAt0 m c t.val t.isLt).2.2.2.2.1 = k0_pay29 (k0_pay20 (k0_pay16 (iblk m c 0 t) (iblk m c 1 t)) (k0_pay17 (iblk m c 0 t) (iblk m c 1 t)))
    ∧ (outsAt0 m c t.val t.isLt).2.2.2.2.2.1 = k0_pay30 (k0_pay23 (k0_pay16 (iblk m c 0 t) (iblk m c 1 t)) (k0_pay17 (iblk m c 0 t) (iblk m c 1 t))) := by
  have ht := lt4 t
  by_cases h0 : t.val % 4 = 0
  · rw [outsAt0_A m c t h0 h0 (by omega) (by omega)]
    dsimp only
    exact outA_rows ..
  · by_cases h6 : t.val % 4 = 3
    · rw [outsAt0_C m c t h0 h0 (by omega) h6]
      dsimp only
      exact outC_rows ..
    · rw [outsAt0_B m c t h0 h0 (by omega) h6]
      dsimp only
      exact outB_rows ..

theorem sum_first (t : Fin cfg0.N) (h : t.val = 0) : (outsAt0 m c t.val t.isLt).2.2.2.2.2.2.2.2.1 = fun _ => k0_pay7 (F := Ideal) (marksFold (iblk m c 0 t) (iblk m c 1 t)) (probsFold (iblk m c 0 t) (iblk m c 1 t)) := by
  rw [outsAt0_A m c t (by omega) (by omega) (by omega) (by omega)]
  dsimp only
  rw [soutA_1]

theorem sum_later (t : Fin cfg0.N) (h5 : 1 ≤ t.val) : (outsAt0 m c t.val t.isLt).2.2.2.2.2.2.2.2.1 = fun _ => k0_pay8 (F := Ideal) (marksFold (iblk m c 0 t) (iblk m c 1 t)) (probsFold (iblk m c 0 t) (iblk m c 1 t)) ((outsAt0 m c (t.val - 1) (Nat.lt_of_le_of_lt (Nat.sub_le _ _) t.isLt)).2.2.2.2.2.2.2.2.1 cell) := by
  have ht := lt4 t
  have h0 : ¬t.val % 4 = 0 := by omega
  by_cases h6 : t.val % 4 = 3
  · rw [outsAt0_C m c t h0 h0 h5 h6]
    dsimp only
    rw [soutC_1]
  · rw [outsAt0_B m c t h0 h0 h5 h6]
    dsimp only
    rw [soutB_1]

theorem squares_first (t : Fin cfg0.N) (h : t.val = 0) : (outsAt0 m c t.val t.isLt).2.2.2.2.2.2.2.2.2 = k0_pay32 (F := Ideal) (k0_pay15 (iblk m c 0 t) (iblk m c 1 t)) (k0_pay31 (F := Ideal)) := by
  rw [outsAt0_A m c t (by omega) (by omega) (by omega) (by omega)]
  dsimp only
  rw [soutA_2]

theorem squares_later (t : Fin cfg0.N) (h5 : 1 ≤ t.val) : (outsAt0 m c t.val t.isLt).2.2.2.2.2.2.2.2.2 = k0_pay32 (F := Ideal) (k0_pay15 (iblk m c 0 t) (iblk m c 1 t)) ((outsAt0 m c (t.val - 1) (Nat.lt_of_le_of_lt (Nat.sub_le _ _) t.isLt)).2.2.2.2.2.2.2.2.2) := by
  have ht := lt4 t
  have h0 : ¬t.val % 4 = 0 := by omega
  by_cases h6 : t.val % 4 = 3
  · rw [outsAt0_C m c t h0 h0 h5 h6]
    dsimp only
    rw [soutC_2]
  · rw [outsAt0_B m c t h0 h0 h5 h6]
    dsimp only
    rw [soutB_2]

theorem zout_last (t : Fin cfg0.N) (h : t.val = 3) : (outsAt0 m c t.val t.isLt).2.2.2.2.2.2.1
    = fun _ => k0_pay9 (F := Ideal) (k0_pay32 (k0_pay15 (iblk m c 0 t) (iblk m c 1 t)) ((outsAt0 m c (t.val - 1) (Nat.lt_of_le_of_lt (Nat.sub_le _ _) t.isLt)).2.2.2.2.2.2.2.2.2)) := by
  rw [outsAt0_C m c t (by omega) (by omega) (by omega) (by omega)]
  dsimp only
  rw [outC_8]

theorem auxout_last (t : Fin cfg0.N) (h : t.val = 3) : (outsAt0 m c t.val t.isLt).2.2.2.2.2.2.2.1
    = fun _ => k0_pay10 (F := Ideal) (k0_pay8 (marksFold (iblk m c 0 t) (iblk m c 1 t)) (probsFold (iblk m c 0 t) (iblk m c 1 t)) ((outsAt0 m c (t.val - 1) (Nat.lt_of_le_of_lt (Nat.sub_le _ _) t.isLt)).2.2.2.2.2.2.2.2.1 cell)) := by
  rw [outsAt0_C m c t (by omega) (by omega) (by omega) (by omega)]
  dsimp only
  rw [outC_9]

/-- The tokens' and the gate's blocks at a point, as entries of the two arguments. -/
theorem tokens_at (t : Fin cfg0.N) (n d : Fin 2048) :
    (iblk m c 0 t : Vec Ideal S1x2048x2048 .f32) (ix3 0 n d)
      = (m ((c.tc : Thread nD τ).loc main_arg0) : FVec Ideal S4x2048x2048 .f32) (ix3 ⟨t.val, lt4 t⟩ n d) := by
  have hi : win0_0.index t 0 = t.val ∧ win0_0.index t 1 = 0 ∧ win0_0.index t 2 = 0 := by
    rcases fin_N0 t with rfl | rfl | rfl | rfl <;> decide
  unfold iblk
  rw [View.read_apply]
  show V m c main_arg0 _ = m (c.tc.loc main_arg0) _
  rw [V_main_arg0]
  congr 1
  funext a
  apply Fin.ext
  match a with
  | ⟨0, _⟩ => show win0_0.index t 0 * 1 + 1 * 0 = t.val; rw [hi.1]; omega
  | ⟨1, _⟩ => show win0_0.index t 1 * 2048 + 1 * n.val = n.val; rw [hi.2.1]; omega
  | ⟨2, _⟩ => show win0_0.index t 2 * 2048 + 1 * d.val = d.val; rw [hi.2.2]; omega

theorem V_main_v0 : V m c main_v0
    = transpose S64x2048 [1, 0] (m ((c.tc : Thread nD τ).loc main_arg1)) transposes_S2048x64_S64x2048_1_0 := by
  dsimp only [V, hostOps0]
  after_results

theorem gate_at (t : Fin cfg0.N) (e : Fin 64) (d : Fin 2048) :
    (iblk m c 1 t : Vec Ideal S64x2048 .f32) (ix2 e d)
      = (m ((c.tc : Thread nD τ).loc main_arg1) : FVec Ideal S2048x64 .f32) (ix2 d e) := by
  have hi : win0_1.index t 0 = 0 ∧ win0_1.index t 1 = 0 := by
    rcases fin_N0 t with rfl | rfl | rfl | rfl <;> decide
  have hv : (V m c main_v0 : FVec Ideal S64x2048 .f32) (ix2 e d)
      = (m ((c.tc : Thread nD τ).loc main_arg1) : FVec Ideal S2048x64 .f32) (ix2 d e) := by
    rw [V_main_v0]
    generalize m ((c.tc : Thread nD τ).loc main_arg1) = g
    pointwise
  refine Eq.trans ?_ hv
  unfold iblk
  rw [View.read_apply]
  show V m c main_v0 _ = V m c main_v0 _
  congr 1
  funext a
  apply Fin.ext
  match a with
  | ⟨0, _⟩ => show win0_1.index t 0 * 64 + 1 * e.val = e.val; rw [hi.1]; omega
  | ⟨1, _⟩ => show win0_1.index t 1 * 2048 + 1 * d.val = d.val; rw [hi.2]; omega

variable (X : Fin 4 → Fin 2048 → Fin 2048 → ℝ) (W : Fin 2048 → Fin 64 → ℝ)
  (hx : ∀ i : S4x2048x2048.Idx, (m ((c.tc : Thread nD τ).loc main_arg0) : FVec Ideal S4x2048x2048 .f32) i = ((X (i 0) (i 1) (i 2) : ℝ) : EReal))
  (hw : ∀ i : S2048x64.Idx, (m ((c.tc : Thread nD τ).loc main_arg1) : FVec Ideal S2048x64 .f32) i = ((W (i 0) (i 1) : ℝ) : EReal))

/-- The batch row a point routes. -/
def row (n : ℕ) : Fin 4 := Fin.ofNat 4 n

theorem row_eq (t : Fin cfg0.N) : (⟨t.val, lt4 t⟩ : Fin 4) = row t.val :=
  Fin.ext (Nat.mod_eq_of_lt (lt4 t)).symm

theorem row_idx (y : S1x1x2048.Idx) : ∃ n : Fin 2048, y = ix3 0 0 n := ⟨y 2, by
  funext a
  match a with
  | ⟨0, _⟩ => exact Subsingleton.elim (α := Fin 1) _ _
  | ⟨1, _⟩ => exact Subsingleton.elim (α := Fin 1) _ _
  | ⟨2, _⟩ => rfl⟩

/-- The block of a point is its row of the array. -/
theorem block_row (t : Fin cfg0.N) (n : Fin 2048) :
    ((cfg0.win 2).blk t).view.emb (ix3 0 0 n) = (ix3 (row t.val) 0 n : S4x1x2048.Idx) := by
  have hi : win0_2.index t 0 = t.val ∧ win0_2.index t 1 = 0 ∧ win0_2.index t 2 = 0 := by
    rcases fin_N0 t with rfl | rfl | rfl | rfl <;> decide
  rw [← row_eq]
  funext a
  apply Fin.ext
  match a with
  | ⟨0, _⟩ => show win0_2.index t 0 * 1 + 1 * 0 = t.val; rw [hi.1]; omega
  | ⟨1, _⟩ => show win0_2.index t 1 * 1 + 1 * 0 = 0; rw [hi.2.1]
  | ⟨2, _⟩ => show win0_2.index t 2 * 2048 + 1 * n.val = n.val; rw [hi.2.2]; omega

include hx in
theorem tok_real (t : Fin cfg0.N) (n d : Fin 2048) :
    (iblk m c 0 t : Vec Ideal S1x2048x2048 .f32) (ix3 0 n d) = ((X (row t.val) n d : ℝ) : EReal) := by
  rw [tokens_at, hx, row_eq]
  rfl

include hw in
theorem gate_real (t : Fin cfg0.N) (e : Fin 64) (d : Fin 2048) :
    (iblk m c 1 t : Vec Ideal S64x2048 .f32) (ix2 e d) = ((W d e : ℝ) : EReal) := by
  rw [gate_at, hw]
  rfl

/-- One batch row's share of the balance loss. -/
def share (L : Fin 2048 → Fin 64 → ℝ) : ℝ := ∑ e : Fin 64, (∑ n, mark (L n) e) * (∑ n, probs (L n) e)

include hx hw

theorem step_7 (t : Fin cfg0.N) : k0_pay7 (F := Ideal) (marksFold (iblk m c 0 t) (iblk m c 1 t)) (probsFold (iblk m c 0 t) (iblk m c 1 t))
    = ((share (logits X W (row t.val)) : ℝ) : EReal) :=
  pay7_real (iblk m c 0 t) (iblk m c 1 t) (logits X W (row t.val)) (X (row t.val)) W
    (tok_real m c X hx t) (gate_real m c W hw t) (fun _ _ => rfl)

theorem step_32 (t : Fin cfg0.N) (xs : Vec Ideal S1x2048 .f32) (n : Fin 2048) :
    k0_pay32 (F := Ideal) (k0_pay15 (iblk m c 0 t) (iblk m c 1 t)) xs (ix2 0 n)
      = xs (ix2 0 n) + ((lse (logits X W (row t.val) n) * lse (logits X W (row t.val) n) : ℝ) : EReal) :=
  pay32_real (iblk m c 0 t) (iblk m c 1 t) (logits X W (row t.val)) (X (row t.val)) W
    (tok_real m c X hx t) (gate_real m c W hw t) (fun _ _ => rfl) xs n

/-- The balance sum after a point: the shares of the rows routed so far. -/
theorem balance_after : ∀ (n : ℕ) (h : n < cfg0.N), (outsAt0 m c n h).2.2.2.2.2.2.2.2.1
    = fun _ => ((∑ b ∈ Finset.range (n + 1), share (logits X W (row b)) : ℝ) : EReal)
  | 0, h => (sum_first m c ⟨0, h⟩ rfl).trans (funext fun _ => by
      rw [step_7 m c X W hx hw, zero_add, Finset.sum_range_one])
  | n + 1, h => by
    have ih := balance_after n (Nat.lt_of_succ_lt h)
    refine (sum_later m c ⟨n + 1, h⟩ (Nat.succ_pos n)).trans (funext fun _ => ?_)
    rw [pay8_add, step_7 m c X W hx hw]
    refine (congrArg (· + _) (congrFun ih cell)).trans ?_
    rw [← EReal.coe_add, Finset.sum_range_succ _ (n + 1)]

/-- The carried row after a point: per column, the squared log-sum-exps of the rows routed so far. -/
theorem squares_after : ∀ (n : ℕ) (h : n < cfg0.N) (k : Fin 2048), (outsAt0 m c n h).2.2.2.2.2.2.2.2.2 (ix2 0 k)
    = ((∑ b ∈ Finset.range (n + 1), lse (logits X W (row b) k) * lse (logits X W (row b) k) : ℝ) : EReal)
  | 0, h, k => (congrFun (squares_first m c ⟨0, h⟩ rfl) _).trans (by
      rw [step_32 m c X W hx hw, pay31_real, zero_add, zero_add, Finset.sum_range_one])
  | n + 1, h, k => by
    have ih := squares_after n (Nat.lt_of_succ_lt h) k
    refine (congrFun (squares_later m c ⟨n + 1, h⟩ (Nat.succ_pos n)) _).trans ?_
    rw [step_32 m c X W hx hw]
    refine (congrArg (· + _) ih).trans ?_
    rw [← EReal.coe_add, Finset.sum_range_succ _ (n + 1)]

/-- What the last point leaves for the z-loss. -/
theorem left_8 (t : Fin cfg0.N) (h : t.val = 3) : (outsAt0 m c t.val t.isLt).2.2.2.2.2.2.1 = fun _ => ((zloss X W : ℝ) : EReal) := by
  rw [zout_last m c t h]
  funext _
  rw [pay9_real _ (fun n => ∑ b ∈ Finset.range (t.val - 1 + 1), lse (logits X W (row b) n) * lse (logits X W (row b) n)
      + lse (logits X W (row t.val) n) * lse (logits X W (row t.val) n)) fun n => by
    rw [step_32 m c X W hx hw, squares_after m c X W hx hw, ← EReal.coe_add]]
  congr 1
  unfold zloss
  rw [Finset.sum_comm, h]
  congr 1
  refine Finset.sum_congr rfl fun n _ => ?_
  rw [Fin.sum_univ_four, Finset.sum_range_succ, Finset.sum_range_succ, Finset.sum_range_one]
  rfl

/-- What the last point leaves for the balance loss. -/
theorem left_9 (t : Fin cfg0.N) (h : t.val = 3) : (outsAt0 m c t.val t.isLt).2.2.2.2.2.2.2.1 = fun _ => ((balance X W : ℝ) : EReal) := by
  rw [auxout_last m c t h]
  funext _
  rw [pay8_add, step_7 m c X W hx hw, balance_after m c X W hx hw, ← EReal.coe_add, pay10_real, h]
  congr 1
  unfold balance
  congr 2
  rw [Fin.sum_univ_four, Finset.sum_range_succ, Finset.sum_range_succ, Finset.sum_range_one]
  rfl

/-! ### The eight result arrays -/

theorem array_2 : (dats m 0 c).arrAt 2 cfg0.N = (fun i => BitVec.ofNat 32 (first (probs (logits X W (i 0) (i 2)))).val : IVec S4x1x2048 32) := by
  refine (dats m 0 c).arrAt_eq_of_cover 2 _ (fun t _ => ?_) (Pipeline.Window.Covers.cover (w := cfg0.win 2) (by decide +kernel) (Memref.isWhole_whole _))
  rw [flushed2, (left_rows m c t).1]
  funext y
  obtain ⟨n, rfl⟩ := row_idx y
  rw [View.read_apply]
  refine (pay25_at ..).trans ?_
  rw [pay21_real (iblk m c 0 t) (iblk m c 1 t) (logits X W (row t.val)) (X (row t.val)) W (tok_real m c X hx t) (gate_real m c W hw t) (fun _ _ => rfl) n]
  rw [show ((cfg0.win 2).blk t).view.emb (ix3 0 0 n) = (ix3 (row t.val) 0 n : S4x1x2048.Idx) from block_row t n]
  rfl

theorem array_3 : (dats m 0 c).arrAt 3 cfg0.N = (fun i => BitVec.ofNat 32 (second (probs (logits X W (i 0) (i 2)))).val : IVec S4x1x2048 32) := by
  refine (dats m 0 c).arrAt_eq_of_cover 3 _ (fun t _ => ?_) (Pipeline.Window.Covers.cover (w := cfg0.win 3) (by decide +kernel) (Memref.isWhole_whole _))
  rw [flushed3, (left_rows m c t).2.1]
  funext y
  obtain ⟨n, rfl⟩ := row_idx y
  rw [View.read_apply]
  refine (pay26_at ..).trans ?_
  rw [pay24_real (iblk m c 0 t) (iblk m c 1 t) (logits X W (row t.val)) (X (row t.val)) W (tok_real m c X hx t) (gate_real m c W hw t) (fun _ _ => rfl) n]
  rw [show ((cfg0.win 3).blk t).view.emb (ix3 0 0 n) = (ix3 (row t.val) 0 n : S4x1x2048.Idx) from block_row t n]
  rfl

theorem array_4 : (dats m 0 c).arrAt 4 cfg0.N = (fun i => FloatOps.sitofp (F := Ideal) .f32 (BitVec.ofNat 32 (first (probs (logits X W (i 0) (i 2)))).val) : FVec Ideal S4x1x2048 .f32) := by
  refine (dats m 0 c).arrAt_eq_of_cover 4 _ (fun t _ => ?_) (Pipeline.Window.Covers.cover (w := cfg0.win 4) (by decide +kernel) (Memref.isWhole_whole _))
  rw [flushed4, (left_rows m c t).2.2.1]
  funext y
  obtain ⟨n, rfl⟩ := row_idx y
  rw [View.read_apply]
  refine (pay27_at ..).trans ?_
  rw [pay21_real (iblk m c 0 t) (iblk m c 1 t) (logits X W (row t.val)) (X (row t.val)) W (tok_real m c X hx t) (gate_real m c W hw t) (fun _ _ => rfl) n]
  rw [show ((cfg0.win 4).blk t).view.emb (ix3 0 0 n) = (ix3 (row t.val) 0 n : S4x1x2048.Idx) from block_row t n]
  rfl

theorem array_5 : (dats m 0 c).arrAt 5 cfg0.N = (fun i => FloatOps.sitofp (F := Ideal) .f32 (BitVec.ofNat 32 (second (probs (logits X W (i 0) (i 2)))).val) : FVec Ideal S4x1x2048 .f32) := by
  refine (dats m 0 c).arrAt_eq_of_cover 5 _ (fun t _ => ?_) (Pipeline.Window.Covers.cover (w := cfg0.win 5) (by decide +kernel) (Memref.isWhole_whole _))
  rw [flushed5, (left_rows m c t).2.2.2.1]
  funext y
  obtain ⟨n, rfl⟩ := row_idx y
  rw [View.read_apply]
  refine (pay28_at ..).trans ?_
  rw [pay24_real (iblk m c 0 t) (iblk m c 1 t) (logits X W (row t.val)) (X (row t.val)) W (tok_real m c X hx t) (gate_real m c W hw t) (fun _ _ => rfl) n]
  rw [show ((cfg0.win 5).blk t).view.emb (ix3 0 0 n) = (ix3 (row t.val) 0 n : S4x1x2048.Idx) from block_row t n]
  rfl

theorem array_6 : (dats m 0 c).arrAt 6 cfg0.N = (fun i => ((mx (probs (logits X W (i 0) (i 2))) : ℝ) : EReal) : FVec Ideal S4x1x2048 .f32) := by
  refine (dats m 0 c).arrAt_eq_of_cover 6 _ (fun t _ => ?_) (Pipeline.Window.Covers.cover (w := cfg0.win 6) (by decide +kernel) (Memref.isWhole_whole _))
  rw [flushed6, (left_rows m c t).2.2.2.2.1]
  funext y
  obtain ⟨n, rfl⟩ := row_idx y
  rw [View.read_apply]
  refine (pay29_at ..).trans ?_
  rw [pay20_real (iblk m c 0 t) (iblk m c 1 t) (logits X W (row t.val)) (X (row t.val)) W (tok_real m c X hx t) (gate_real m c W hw t) (fun _ _ => rfl) n]
  rw [show ((cfg0.win 6).blk t).view.emb (ix3 0 0 n) = (ix3 (row t.val) 0 n : S4x1x2048.Idx) from block_row t n]
  rfl

theorem array_7 : (dats m 0 c).arrAt 7 cfg0.N = (fun i => ((probs (logits X W (i 0) (i 2)) (second (probs (logits X W (i 0) (i 2)))) : ℝ) : EReal) : FVec Ideal S4x1x2048 .f32) := by
  refine (dats m 0 c).arrAt_eq_of_cover 7 _ (fun t _ => ?_) (Pipeline.Window.Covers.cover (w := cfg0.win 7) (by decide +kernel) (Memref.isWhole_whole _))
  rw [flushed7, (left_rows m c t).2.2.2.2.2]
  funext y
  obtain ⟨n, rfl⟩ := row_idx y
  rw [View.read_apply]
  refine (pay30_at ..).trans ?_
  rw [pay23_real (iblk m c 0 t) (iblk m c 1 t) (logits X W (row t.val)) (X (row t.val)) W (tok_real m c X hx t) (gate_real m c W hw t) (fun _ _ => rfl) n]
  rw [show ((cfg0.win 7).blk t).view.emb (ix3 0 0 n) = (ix3 (row t.val) 0 n : S4x1x2048.Idx) from block_row t n]
  rfl

theorem array_8 : (dats m 0 c).arrAt 8 cfg0.N = (fun _ => ((zloss X W : ℝ) : EReal) : FVec Ideal S1x1 .f32) := by
  refine (dats m 0 c).arrAt_eq_of_covers 8 _ (by decide +kernel) fun t hf y => ?_
  rw [after0_8, left_8 m c X W hx hw t (by have := (flush0_8 t).mp hf; have := lt4 t; omega)]
  rfl

theorem array_9 : (dats m 0 c).arrAt 9 cfg0.N = (fun _ => ((balance X W : ℝ) : EReal) : FVec Ideal S1x1 .f32) := by
  refine (dats m 0 c).arrAt_eq_of_covers 9 _ (by decide +kernel) fun t hf y => ?_
  rw [after0_9, left_9 m c X W hx hw t (by have := (flush0_9 t).mp hf; have := lt4 t; omega)]
  rfl

end

end Cert.Proof.Route

end
-- ==== Proof.RouterReference.lean ====
/-
  The router's reference, read over the reals: its softmaxes, its two largest probabilities and their experts, and its
  two losses are the quantities of RouterMath.
-/
module

public import proofs.«01_k».proof.Proof.RouterMath
public import proofs.«01_k».proof.Proof.Gen.RouterReferenceIdeal.Read
public import Idealize.ShloMosaic.Lib.Pointwise.Tactic
public import Idealize.ShloMosaic.Lib.Pointwise.Reshape
public import Idealize.ShloMosaic.Lib.Pointwise.IndexVar
public import Idealize.ShloMosaic.Lib.Pointwise.Sums
public import Idealize.ShloMosaic.Lib.Pointwise.Reduce

@[expose] public section

noncomputable section

namespace Cert.Proof.Route

open Cert.RouterReferenceIdeal Cert.RouterReferenceIdeal.Gen Cert.RouterReferenceIdeal.Read
open Idealize.ShloMosaic

section
variable (x : FVec Ideal S4x2048x2048 .f32) (w : FVec Ideal S2048x64 .f32)
  (X : Fin 4 → Fin 2048 → Fin 2048 → ℝ) (W : Fin 2048 → Fin 64 → ℝ)
  (hx : ∀ i : S4x2048x2048.Idx, x i = ((X (i 0) (i 1) (i 2) : ℝ) : EReal))
  (hw : ∀ i : S2048x64.Idx, w i = ((W (i 0) (i 1) : ℝ) : EReal))
include hx hw

theorem v0_real (i : S4x2048x64.Idx) : val_main_v0 (F := Ideal) x w i = ((logits X W (i 0) (i 1) (i 2) : ℝ) : EReal) := by
  rw [val_main_v0_apply]
  unfold logits
  rw [← coe_sum]
  refine Finset.sum_congr rfl fun k _ => ?_
  rw [hx, hw, EReal.coe_mul]
  rfl

theorem v1_real (i : S4x2048.Idx) : val_main_v1 (F := Ideal) x w i = ((mx (logits X W (i 0) (i 1)) : ℝ) : EReal) := by
  unfold val_main_v1
  idx_vars i
  pointwise
  simp only [v0_real x w X W hx hw, val_main_cst_apply, Ideal.ofBits_def, word_ninf]
  exact fold_max_real _

theorem v5_real (i : S4x2048x64.Idx) : val_main_v5 (F := Ideal) x w i = ((ex (logits X W (i 0) (i 1)) (i 2) : ℝ) : EReal) := by
  rw [val_main_v5_apply, val_main_v4_apply, val_main_v3_apply, val_main_v2_apply, v0_real x w X W hx hw,
    v1_real x w X W hx hw, Ideal.hostUnary_exp_def, Ideal.subf_def, ← EReal.coe_sub, Ideal.exp_coe]
  rfl

theorem v6_real (i : S4x2048.Idx) : val_main_v6 (F := Ideal) x w i = ((sm (logits X W (i 0) (i 1)) : ℝ) : EReal) := by
  rw [val_main_v6_apply, val_main_cst_0_apply]
  simp only [v5_real x w X W hx hw, coe_sum, Ideal.ofBits_def, Ideal.ofBits_zero_f32, zero_add]
  rfl

omit hx hw in
theorem idx8 (i : S4x2048.Idx) : idx_main_v2 (idx_main_v8 i) = i := by
  funext a
  have h1 : (i 1).val < 2048 := (i 1).isLt
  fin_cases a
  · exact Fin.ext (by show ((i 0).val * 2048 + (i 1).val) / 2048 = (i 0).val; omega)
  · exact Fin.ext (by show ((i 0).val * 2048 + (i 1).val) / 1 % 2048 = (i 1).val; omega)

theorem v9_real (i : S4x2048.Idx) : val_main_v9 (F := Ideal) x w i = ((lse (logits X W (i 0) (i 1)) : ℝ) : EReal) := by
  rw [val_main_v9_apply, val_main_v7_apply, val_main_v8_apply, val_main_v2_apply, v6_real x w X W hx hw,
    v1_real x w X W hx hw, Ideal.hostUnary_log_def, log_real _ (sm_pos _), Ideal.addf_def, ← EReal.coe_add, add_comm, idx8]
  rfl

theorem v23_real (i : S4x2048x64.Idx) : val_main_v23 (F := Ideal) x w i = ((soft (logits X W (i 0) (i 1)) (i 2) : ℝ) : EReal) := by
  have h13 : ∀ i : S4x2048.Idx, val_main_v13 (F := Ideal) x w i = ((mx (logits X W (i 0) (i 1)) : ℝ) : EReal) :=
    v1_real x w X W hx hw
  have h15 : ∀ i : S4x2048.Idx, val_main_v15 (F := Ideal) x w i = ((mx (logits X W (i 0) (i 1)) : ℝ) : EReal) := fun i => by
    rw [val_main_v15_apply, h13, val_main_v14_apply, val_main_cst_4_apply, Ideal.ofBits_def, word_ninf]
    exact max_eq_right bot_le
  have h19 : ∀ i : S4x2048x64.Idx, val_main_v19 (F := Ideal) x w i = ((ex (logits X W (i 0) (i 1)) (i 2) : ℝ) : EReal) := fun i => by
    rw [val_main_v19_apply, val_main_v18_apply, val_main_v17_apply, val_main_v16_apply, v0_real x w X W hx hw, h15,
      Ideal.hostUnary_exp_def, Ideal.subf_def, ← EReal.coe_sub, Ideal.exp_coe]
    rfl
  have h20 : ∀ i : S4x2048.Idx, val_main_v20 (F := Ideal) x w i = ((sm (logits X W (i 0) (i 1)) : ℝ) : EReal) := fun i => by
    rw [val_main_v20_apply, val_main_cst_5_apply]
    simp only [h19, coe_sum, Ideal.ofBits_def, Ideal.ofBits_zero_f32, zero_add]
    rfl
  rw [val_main_v23_apply, val_main_v22_apply, val_main_v21_apply, h19, h20, Ideal.hostDivf_def,
    div_real _ _ (sm_pos _).ne']
  rfl

theorem v34_real (i : S4x2048x64.Idx) : val_main_v34 (F := Ideal) x w i = ((probs (logits X W (i 0) (i 1)) (i 2) : ℝ) : EReal) := by
  have h24 : ∀ i : S4x2048.Idx, val_main_v24 (F := Ideal) x w i = ((mx (soft (logits X W (i 0) (i 1))) : ℝ) : EReal) := fun i => by
    unfold val_main_v24
    idx_vars i
    pointwise
    simp only [v23_real x w X W hx hw, val_main_cst_6_apply, Ideal.ofBits_def, word_ninf]
    exact fold_max_real _
  have h26 : ∀ i : S4x2048.Idx, val_main_v26 (F := Ideal) x w i = ((mx (soft (logits X W (i 0) (i 1))) : ℝ) : EReal) := fun i => by
    rw [val_main_v26_apply, h24, val_main_v25_apply, val_main_cst_7_apply, Ideal.ofBits_def, word_ninf]
    exact max_eq_right bot_le
  have h30 : ∀ i : S4x2048x64.Idx, val_main_v30 (F := Ideal) x w i = ((ex (soft (logits X W (i 0) (i 1))) (i 2) : ℝ) : EReal) := fun i => by
    rw [val_main_v30_apply, val_main_v29_apply, val_main_v28_apply, val_main_v27_apply, v23_real x w X W hx hw, h26,
      Ideal.hostUnary_exp_def, Ideal.subf_def, ← EReal.coe_sub, Ideal.exp_coe]
    rfl
  have h31 : ∀ i : S4x2048.Idx, val_main_v31 (F := Ideal) x w i = ((sm (soft (logits X W (i 0) (i 1))) : ℝ) : EReal) := fun i => by
    rw [val_main_v31_apply, val_main_cst_8_apply]
    simp only [h30, coe_sum, Ideal.ofBits_def, Ideal.ofBits_zero_f32, zero_add]
    rfl
  rw [val_main_v34_apply, val_main_v33_apply, val_main_v32_apply, h30, h31, Ideal.hostDivf_def,
    div_real _ _ (sm_pos _).ne']
  rfl

theorem before_real (b : Fin 4) (n : Fin 2048) (k k' : Fin 64) :
    (FloatOps.cmpfTotal (F := Ideal) (φ := .f32) .gt (val_main_v34 (F := Ideal) x w (ix3 b n k)) (val_main_v34 (F := Ideal) x w (ix3 b n k')) == 1#1)
      = decide (probs (logits X W b n) k' < probs (logits X W b n) k) := by
  rw [v34_real x w X W hx hw, v34_real x w X W hx hw]
  show ((BitVec.ofBool (decide (((probs (logits X W b n) k' : ℝ) : EReal) < ((probs (logits X W b n) k : ℝ) : EReal)))) == 1#1) = _
  simp only [EReal.coe_lt_coe_iff]
  by_cases h : probs (logits X W b n) k' < probs (logits X W b n) k <;> simp [h]

omit hx hw in
theorem along_row (b : Fin 4) (n : Fin 2048) (c : Fin 2) (h : S4x2048x64.rank = S4x2048x2.rank)
    (h' : ∀ a, 0 + (ix3 b n c (Fin.cast h a)).val < S4x2048x64.size a) (h2 : 2 < S4x2048x64.rank) (k : Fin (S4x2048x64.size ⟨2, h2⟩)) :
    Shape.Idx.along (s := S4x2048x64) (fun a => ⟨0 + (ix3 b n c (Fin.cast h a)).val, h' a⟩) ⟨2, h2⟩ k = ix3 b n k := by
  funext a
  unfold Shape.Idx.along
  fin_cases a
  · exact (Function.update_of_ne (fun h => absurd (congrArg Fin.val h) (show (0 : ℕ) ≠ 2 by decide)) _ _).trans (Fin.ext (Nat.zero_add _))
  · exact (Function.update_of_ne (fun h => absurd (congrArg Fin.val h) (show (1 : ℕ) ≠ 2 by decide)) _ _).trans (Fin.ext (Nat.zero_add _))
  · exact Function.update_self _ _ _

theorem indices_first (b : Fin 4) (n : Fin 2048) : val_main_indices (F := Ideal) x w (ix3 b n 0)
    = BitVec.ofNat 32 (first (probs (logits X W b n))).val := by
  unfold val_main_indices Host.topK Host.sort2
  dsimp only
  rw [dif_pos (by decide)]
  unfold extractStridedSlice
  dsimp only
  rw [dif_pos (by decide)]
  rw [← sorted_first (probs (logits X W b n)) _ (before_real x w X W hx hw b n)]
  simp only [along_row]
  rfl

theorem indices_second (b : Fin 4) (n : Fin 2048) : val_main_indices (F := Ideal) x w (ix3 b n 1)
    = BitVec.ofNat 32 (second (probs (logits X W b n))).val := by
  unfold val_main_indices Host.topK Host.sort2
  dsimp only
  rw [dif_pos (by decide)]
  unfold extractStridedSlice
  dsimp only
  rw [dif_pos (by decide)]
  rw [← sorted_second (probs (logits X W b n)) _ (before_real x w X W hx hw b n)]
  simp only [along_row]
  rfl

theorem values_first (b : Fin 4) (n : Fin 2048) : val_main_values (F := Ideal) x w (ix3 b n 0)
    = ((mx (probs (logits X W b n)) : ℝ) : EReal) := by
  unfold val_main_values Host.topK Host.sort2
  dsimp only
  rw [dif_pos (by decide)]
  unfold extractStridedSlice
  dsimp only
  unfold mx
  rw [← sorted_first (probs (logits X W b n)) _ (before_real x w X W hx hw b n)]
  simp only [along_row]
  exact v34_real x w X W hx hw _

theorem values_second (b : Fin 4) (n : Fin 2048) : val_main_values (F := Ideal) x w (ix3 b n 1)
    = ((probs (logits X W b n) (second (probs (logits X W b n))) : ℝ) : EReal) := by
  unfold val_main_values Host.topK Host.sort2
  dsimp only
  rw [dif_pos (by decide)]
  unfold extractStridedSlice
  dsimp only
  conv_rhs => rw [← sorted_second (probs (logits X W b n)) _ (before_real x w X W hx hw b n)]
  simp only [along_row]
  exact v34_real x w X W hx hw _

theorem mark_real (b : Fin 4) (n : Fin 2048) (e : Fin 64) :
    val_main_v36 (F := Ideal) x w (ix3 b n e) = ((mark (logits X W b n) e : ℝ) : EReal) := by
  have h35 : ∀ k : Fin 2, val_main_v35 (F := Ideal) x w (ix4 b n k e)
      = (((if e = (if k = 0 then first (probs (logits X W b n)) else second (probs (logits X W b n))) then 1 else 0 : ℝ)) : EReal) := fun k => by
    have hi : val_main_indices (F := Ideal) x w (ix3 b n k)
        = BitVec.ofNat 32 (if k = 0 then first (probs (logits X W b n)) else second (probs (logits X W b n))).val := by
      fin_cases k
      · exact indices_first x w X W hx hw b n
      · exact indices_second x w X W hx hw b n
    rw [val_main_v35_apply, val_main_call0_v4_apply, val_main_call0_v2_apply, val_main_call0_v0_apply,
      val_main_call0_v3_apply, val_main_call0_v1_apply]
    have hidx : idx_main_call0_v0 (idx_main_call0_v2 (ix4 b n k e)) = ix3 b n k := by
      funext a; fin_cases a <;> rfl
    rw [hidx, hi]
    generalize (if k = 0 then first (probs (logits X W b n)) else second (probs (logits X W b n))) = a
    show (((IntOp.cmpi .eq (BitVec.ofNat 32 a.val) (BitVec.ofNat 32 e.val)).toNat : ℝ) : EReal) = _
    by_cases hae : e = a
    · subst hae
      simp [IntOp.cmpi]
    · have hne : BitVec.ofNat 32 a.val ≠ BitVec.ofNat 32 e.val := fun h => hae (Fin.ext (by
        have := congrArg BitVec.toNat h
        simp only [BitVec.toNat_ofNat] at this
        have := a.isLt; have := e.isLt
        omega))
      have : (BitVec.ofNat 32 a.val == BitVec.ofNat 32 e.val) = false := beq_eq_false_iff_ne.mpr hne
      simp [IntOp.cmpi, this, hae]
  unfold val_main_v36
  pointwise
  simp only [h35, val_main_cst_9_apply, Ideal.ofBits_def, word_ninf]
  have hne := second_ne (probs (logits X W b n))
  rw [show (Finset.univ : Finset (Fin 2)) = insert 0 {1} from rfl, Finset.fold_insert (by decide), Finset.fold_singleton,
    max_eq_left (bot_le : (⊥ : EReal) ≤ _), if_pos (rfl : (0 : Fin 2) = 0), if_neg (by decide : ¬ (1 : Fin 2) = 0)]
  unfold mark
  generalize first (probs (logits X W b n)) = f at hne
  generalize second (probs (logits X W b n)) = g at hne
  by_cases h : e = f
  · subst h
    rw [if_pos rfl, if_neg (Ne.symm hne), add_zero]
    exact max_eq_left (EReal.coe_le_coe_iff.mpr zero_le_one)
  · rw [if_neg h, zero_add]
    refine max_eq_right (EReal.coe_le_coe_iff.mpr ?_)
    split <;> norm_num

theorem aux_real (i : S_.Idx) : val_main_v46 (F := Ideal) x w i = ((balance X W : ℝ) : EReal) := by
  have h37 : ∀ i : S4x64.Idx, val_main_v37 (F := Ideal) x w i = ((∑ n : Fin 2048, mark (logits X W (i 0) n) (i 1) : ℝ) : EReal) := fun i => by
    rw [val_main_v37_apply, val_main_cst_10_apply, Ideal.ofBits_def, Ideal.ofBits_zero_f32, zero_add, ← coe_sum]
    refine Finset.sum_congr rfl fun n _ => ?_
    have hi : idx_main_v37 i n = ix3 (i 0) n (i 1) := by funext a; fin_cases a <;> rfl
    rw [hi]
    exact mark_real x w X W hx hw _ _ _
  have h40 : ∀ i : S4x64.Idx, val_main_v40 (F := Ideal) x w i = ((∑ n : Fin 2048, probs (logits X W (i 0) n) (i 1) : ℝ) : EReal) := fun i => by
    rw [val_main_v40_apply, val_main_cst_12_apply, Ideal.ofBits_def, Ideal.ofBits_zero_f32, zero_add, ← coe_sum]
    refine Finset.sum_congr rfl fun n _ => ?_
    have hi : idx_main_v40 i n = ix3 (i 0) n (i 1) := by funext a; fin_cases a <;> rfl
    rw [hi]
    exact v34_real x w X W hx hw (ix3 (n0 := 4) (n2 := 64) (i 0) n (i 1))
  have h43 : ∀ i : S4x64.Idx, val_main_v43 (F := Ideal) x w i
      = (((∑ n : Fin 2048, mark (logits X W (i 0) n) (i 1)) / 2048 * ((∑ n : Fin 2048, probs (logits X W (i 0) n) (i 1)) / 2048) : ℝ) : EReal) := fun i => by
    rw [val_main_v43_apply, val_main_v39_apply, val_main_v42_apply, h37, h40, val_main_v38_apply, val_main_v41_apply,
      val_main_cst_11_apply, val_main_cst_13_apply, Ideal.ofBits_def, word_2048, Ideal.hostDivf_def, Ideal.hostDivf_def,
      div_real _ _ (by norm_num), div_real _ _ (by norm_num), Ideal.mulf_def, ← EReal.coe_mul]
  rw [val_main_v46_apply, val_main_v45_apply, val_main_v44_apply, val_main_cst_14_apply, val_main_cst_15_apply,
    val_main_cst_16_apply, Ideal.ofBits_def, Ideal.ofBits_def, Ideal.ofBits_def, Ideal.ofBits_zero_f32, word_256, word_4096, zero_add]
  simp only [h43, coe_sum]
  rw [Ideal.hostDivf_def, div_real _ _ (by norm_num), Ideal.mulf_def, ← EReal.coe_mul, ValueIdx.sum_idx2]
  unfold balance
  refine congrArg _ ?_
  have h : ∀ b : Fin 4, ∀ e : Fin 64, (∑ n : Fin 2048, mark (logits X W b n) e) / 2048 * ((∑ n : Fin 2048, probs (logits X W b n) e) / 2048)
      = (∑ n : Fin 2048, mark (logits X W b n) e) * (∑ n : Fin 2048, probs (logits X W b n) e) * (1 / (2048 * 2048)) := fun b e => by ring
  show (∑ b : Fin 4, ∑ e : Fin 64, (∑ n : Fin 2048, mark (logits X W b n) e) / 2048 * ((∑ n : Fin 2048, probs (logits X W b n) e) / 2048)) / 256 * 4096 = _
  simp only [h, ← Finset.sum_mul]
  ring

theorem z_real (i : S_.Idx) : val_main_v12 (F := Ideal) x w i = ((zloss X W : ℝ) : EReal) := by
  rw [val_main_v12_apply, val_main_v11_apply, val_main_cst_1_apply, val_main_cst_2_apply]
  simp only [val_main_v10_apply, v9_real x w X W hx hw, Ideal.mulf_def, ← EReal.coe_mul, coe_sum, ValueIdx.sum_idx2]
  rw [Ideal.ofBits_def, Ideal.ofBits_def, Ideal.ofBits_zero_f32, word_8192, zero_add, Ideal.hostDivf_def, div_real _ _ (by norm_num)]
  rfl

/-! ### The eight results -/

omit hx hw in
theorem idx_row (i : S4x1x2048.Idx) (c : Fin 2) :
    idx_main_v47 (idx_main_v48 (idx_main_v51 i)) = ix3 (i 0) (i 2) 0 ∧ idx_main_v49 (idx_main_v50 (idx_main_v52 i)) = ix3 (i 0) (i 2) 1 := by
  have h2 : (i 2).val < 2048 := (i 2).isLt
  constructor <;> funext a <;> fin_cases a
  · exact Fin.ext (by show ((i 0).val * 2048 + (i 2).val) / 2048 = (i 0).val; omega)
  · exact Fin.ext (by show ((i 0).val * 2048 + (i 2).val) / 1 % 2048 = (i 2).val; omega)
  · rfl
  · exact Fin.ext (by show ((i 0).val * 2048 + (i 2).val) / 2048 = (i 0).val; omega)
  · exact Fin.ext (by show ((i 0).val * 2048 + (i 2).val) / 1 % 2048 = (i 2).val; omega)
  · rfl

theorem idx1_real (i : S4x1x2048.Idx) : val_main_v51 (F := Ideal) x w i = BitVec.ofNat 32 (first (probs (logits X W (i 0) (i 2)))).val := by
  rw [val_main_v51_apply, val_main_v48_apply, val_main_v47_apply, (idx_row i 0).1]
  exact indices_first x w X W hx hw _ _

theorem idx2_real (i : S4x1x2048.Idx) : val_main_v52 (F := Ideal) x w i = BitVec.ofNat 32 (second (probs (logits X W (i 0) (i 2)))).val := by
  rw [val_main_v52_apply, val_main_v50_apply, val_main_v49_apply, (idx_row i 0).2]
  exact indices_second x w X W hx hw _ _

theorem idxf1_real (i : S4x1x2048.Idx) : val_main_v54 (F := Ideal) x w i
    = FloatOps.sitofp (F := Ideal) .f32 (BitVec.ofNat 32 (first (probs (logits X W (i 0) (i 2)))).val) := by
  rw [val_main_v54_apply, val_main_v53_apply, val_main_v48_apply, val_main_v47_apply]
  exact congrArg _ ((congrArg _ (idx_row i 0).1).trans (indices_first x w X W hx hw _ _))

theorem idxf2_real (i : S4x1x2048.Idx) : val_main_v56 (F := Ideal) x w i
    = FloatOps.sitofp (F := Ideal) .f32 (BitVec.ofNat 32 (second (probs (logits X W (i 0) (i 2)))).val) := by
  rw [val_main_v56_apply, val_main_v55_apply, val_main_v50_apply, val_main_v49_apply]
  exact congrArg _ ((congrArg _ (idx_row i 0).2).trans (indices_second x w X W hx hw _ _))

theorem w1_real (i : S4x1x2048.Idx) : val_main_v59 (F := Ideal) x w i = ((mx (probs (logits X W (i 0) (i 2))) : ℝ) : EReal) := by
  rw [val_main_v59_apply, val_main_v58_apply, val_main_v57_apply]
  exact (congrArg _ (idx_row i 0).1).trans (values_first x w X W hx hw _ _)

theorem w2_real (i : S4x1x2048.Idx) : val_main_v62 (F := Ideal) x w i
    = ((probs (logits X W (i 0) (i 2)) (second (probs (logits X W (i 0) (i 2)))) : ℝ) : EReal) := by
  rw [val_main_v62_apply, val_main_v61_apply, val_main_v60_apply]
  exact (congrArg _ (idx_row i 0).2).trans (values_second x w X W hx hw _ _)

theorem zout_real (i : S1x1.Idx) : val_main_v63 (F := Ideal) x w i = ((zloss X W : ℝ) : EReal) := z_real x w X W hx hw _

theorem auxout_real (i : S1x1.Idx) : val_main_v64 (F := Ideal) x w i = ((balance X W : ℝ) : EReal) := aux_real x w X W hx hw _

end

end Cert.Proof.Route
-- ==== Proof.RouterClaims.lean ====
/-
  The router's claims: the precondition read as real inputs, the frames of the two programs and of the reference, and
  the equality of the eight results.
-/
module

public import proofs.«01_k».proof.Defs
public import proofs.«01_k».proof.Proof.Gen.Pre_finite
public import proofs.«01_k».proof.Proof.Gen.Router
public import proofs.«01_k».proof.Proof.Gen.Router.Frame
public import proofs.«01_k».proof.Proof.Gen.RouterIdeal
public import proofs.«01_k».proof.Proof.Gen.RouterIdeal.Frame
public import proofs.«01_k».proof.Proof.Gen.RouterReferenceIdeal
public import proofs.«01_k».proof.Proof.Gen.RouterReferenceIdeal.Run
public import proofs.«01_k».proof.Proof.RouterKernel
public import proofs.«01_k».proof.Proof.RouterReference
public import Idealize.ShloMosaic.Lib.ReduceAll
public import Idealize.ShloMosaic.Adequacy
public import Idealize.ShloMosaic.Init

@[expose] public section

noncomputable section

namespace Cert.Proof.Route

open Idealize.ShloMosaic Idealize.SL.Sem

local instance : Cert.Pre_finite.Facts := Cert.Pre_finite.Gen.facts
local instance : Cert.Router.Facts := Cert.Router.Gen.facts
local instance : Cert.RouterIdeal.Facts := Cert.RouterIdeal.Gen.facts
local instance : Cert.RouterReferenceIdeal.Facts := Cert.RouterReferenceIdeal.Gen.facts

theorem word_inf : Ideal.ofBits .f32 0x7F800000#32 = (⊤ : EReal) := by
  simp [Ideal.ofBits, Ideal.ieee]

/-- A number whose absolute value compares below infinity is a real. -/
theorem real_of_finite (x : Ideal .f32)
    (h : FloatOps.cmpf .olt (FloatOps.hostAbsf x) (FloatOps.ofBits (F := Ideal) .f32 0x7F800000#32) = 1#1) :
    x = ((EReal.toReal x : ℝ) : EReal) := by
  have hlt : max x (-x) < (⊤ : EReal) := by
    by_contra hc
    have e : FloatOps.cmpf .olt (FloatOps.hostAbsf x) (FloatOps.ofBits (F := Ideal) .f32 0x7F800000#32) = 0#1 := by
      show Ideal.cmp .olt (max x (-x)) (Ideal.ofBits .f32 0x7F800000#32) = 0#1
      rw [word_inf]
      simp [Ideal.cmp, hc]
    rw [e] at h
    exact absurd h (by decide)
  have h1 : x ≠ ⊤ := fun hx => by rw [hx] at hlt; simp at hlt
  have h2 : x ≠ ⊥ := fun hx => by rw [hx] at hlt; simp at hlt
  exact (EReal.coe_toReal h1 h2).symm

/-- What the precondition says of the two inputs. -/
theorem inputs_real (a0 : FVec Ideal Cert.Pre_finite.S4x2048x2048 .f32) (a1 : FVec Ideal Cert.Pre_finite.S2048x64 .f32)
    (h : Cert.Pre_finite.fn (F := Ideal) a0 a1 = fun _ => 1#1) :
    (∀ j, a0 j = ((EReal.toReal (a0 j) : ℝ) : EReal)) ∧ ∀ j, a1 j = ((EReal.toReal (a1 j) : ℝ) : EReal) := by
  haveI : Subsingleton Cert.Pre_finite.S_.Idx := ⟨fun a b => funext fun i => i.elim0⟩
  have e := congrFun h (fun i : Fin 0 => i.elim0)
  dsimp only [Cert.Pre_finite.fn] at e
  obtain ⟨a, b⟩ := IntOp.andi_eq_one.1 e
  exact ⟨fun j => real_of_finite _ (Host.reduce_andi_all _ _ _ _ _ a j),
    fun j => real_of_finite _ (Host.reduce_andi_all _ _ _ _ _ b j)⟩

theorem frame_router : Cert.quiescent_Router := fun m ρ _ => Cert.Router.Gen.frame (F := Bits) m ρ

theorem frame_routerIdeal : Cert.quiescent_RouterIdeal := fun m ρ _ => Cert.RouterIdeal.Gen.frame (F := Ideal) m ρ

theorem frame_routerIdeal_pre : Cert.quiescent_RouterIdeal_pre_finite := fun m ρ _ => frame_routerIdeal m ρ trivial

theorem frame_routerReference : Cert.quiescent_RouterReferenceIdeal := fun m ρ _ =>
  (θ_run (Cert.RouterReferenceIdeal.defs (F := Ideal)) _ _).mono
    (fun r h => ⟨fun c => (h c).2.2.2.2.2.2.2.2, sem_eq_zero_of_no_sems (by decide) r.2⟩)
    (Cert.RouterReferenceIdeal.Value.run (F := Ideal) m ρ)

theorem frame_routerReference_pre : Cert.quiescent_RouterReferenceIdeal_pre_finite :=
  fun m ρ _ => frame_routerReference m ρ trivial

open Cert.RouterReferenceIdeal.Read in
/-- From equal real arguments both programs end with the same experts, weights and losses. -/
theorem algebraic : Cert.algebraic_RouterIdeal_RouterReferenceIdeal_pre_finite := fun m ρ m' ρ' hp ha => by
  let A0 : Dev Cert.RouterIdeal.nD → FVec Ideal Cert.RouterIdeal.S4x2048x2048 .f32 := fun c =>
    m ((c.tc : Thread Cert.RouterIdeal.nD Cert.RouterIdeal.τ).loc Cert.RouterIdeal.main_arg0)
  let A1 : Dev Cert.RouterIdeal.nD → FVec Ideal Cert.RouterIdeal.S2048x64 .f32 := fun c =>
    m ((c.tc : Thread Cert.RouterIdeal.nD Cert.RouterIdeal.τ).loc Cert.RouterIdeal.main_arg1)
  let X : Dev Cert.RouterIdeal.nD → Fin 4 → Fin 2048 → Fin 2048 → ℝ := fun c b n d => EReal.toReal (A0 c (ix3 b n d))
  let W : Dev Cert.RouterIdeal.nD → Fin 2048 → Fin 64 → ℝ := fun c d e => EReal.toReal (A1 c (ix2 d e))
  have hx : ∀ c (i : Cert.RouterIdeal.S4x2048x2048.Idx), A0 c i = ((X c (i 0) (i 1) (i 2) : ℝ) : EReal) := fun c i => by
    refine ((inputs_real _ _ (hp c)).1 i).trans ?_
    idx_vars i
    rfl
  have hw : ∀ c (i : Cert.RouterIdeal.S2048x64.Idx), A1 c i = ((W c (i 0) (i 1) : ℝ) : EReal) := fun c i => by
    refine ((inputs_real _ _ (hp c)).2 i).trans ?_
    idx_vars i
    rfl
  refine ⟨fun c => val_main_v51 (F := Ideal) (A0 c) (A1 c), fun c => val_main_v52 (F := Ideal) (A0 c) (A1 c),
    fun c => val_main_v54 (F := Ideal) (A0 c) (A1 c), fun c => val_main_v56 (F := Ideal) (A0 c) (A1 c),
    fun c => val_main_v59 (F := Ideal) (A0 c) (A1 c), fun c => val_main_v62 (F := Ideal) (A0 c) (A1 c),
    fun c => val_main_v63 (F := Ideal) (A0 c) (A1 c), fun c => val_main_v64 (F := Ideal) (A0 c) (A1 c), ?_, ?_⟩
  · refine (θ_run (Cert.RouterIdeal.defs (F := Ideal)) _ _).mono (fun r h c => ?_)
      (Cert.RouterIdeal.Value.run_blocks (F := Ideal) m ρ)
    obtain ⟨h0, h1, h2, h3, h4, h5, h6, h7, h8⟩ := h c
    refine ⟨h0.trans ((array_2 m c (X c) (W c) (hx c) (hw c)).trans (funext fun i => ?_)),
      h1.trans ((array_3 m c (X c) (W c) (hx c) (hw c)).trans (funext fun i => ?_)),
      h2.trans ((array_4 m c (X c) (W c) (hx c) (hw c)).trans (funext fun i => ?_)),
      h3.trans ((array_5 m c (X c) (W c) (hx c) (hw c)).trans (funext fun i => ?_)),
      h4.trans ((array_6 m c (X c) (W c) (hx c) (hw c)).trans (funext fun i => ?_)),
      h5.trans ((array_7 m c (X c) (W c) (hx c) (hw c)).trans (funext fun i => ?_)),
      h6.trans ((array_8 m c (X c) (W c) (hx c) (hw c)).trans (funext fun i => ?_)),
      h7.trans ((array_9 m c (X c) (W c) (hx c) (hw c)).trans (funext fun i => ?_)), h8⟩
    · exact (idx1_real (A0 c) (A1 c) (X c) (W c) (hx c) (hw c) i).symm
    · exact (idx2_real (A0 c) (A1 c) (X c) (W c) (hx c) (hw c) i).symm
    · exact (idxf1_real (A0 c) (A1 c) (X c) (W c) (hx c) (hw c) i).symm
    · exact (idxf2_real (A0 c) (A1 c) (X c) (W c) (hx c) (hw c) i).symm
    · exact (w1_real (A0 c) (A1 c) (X c) (W c) (hx c) (hw c) i).symm
    · exact (w2_real (A0 c) (A1 c) (X c) (W c) (hx c) (hw c) i).symm
    · exact (zout_real (A0 c) (A1 c) (X c) (W c) (hx c) (hw c) i).symm
    · exact (auxout_real (A0 c) (A1 c) (X c) (W c) (hx c) (hw c) i).symm
  · refine (θ_run (Cert.RouterReferenceIdeal.defs (F := Ideal)) _ _).mono (fun r h c => ?_)
      (Cert.RouterReferenceIdeal.Value.run (F := Ideal) m' ρ')
    obtain ⟨h0, h1, h2, h3, h4, h5, h6, h7, h8⟩ := h c
    obtain ⟨a0, a1⟩ := ha c
    refine ⟨h0.trans ((val_main_v51_eq (F := Ideal) m' c).trans ?_), h1.trans ((val_main_v52_eq (F := Ideal) m' c).trans ?_),
      h2.trans ((val_main_v54_eq (F := Ideal) m' c).trans ?_), h3.trans ((val_main_v56_eq (F := Ideal) m' c).trans ?_),
      h4.trans ((val_main_v59_eq (F := Ideal) m' c).trans ?_), h5.trans ((val_main_v62_eq (F := Ideal) m' c).trans ?_),
      h6.trans ((val_main_v63_eq (F := Ideal) _ _).trans ?_), h7.trans ((val_main_v64_eq (F := Ideal) m' c).trans ?_), h8⟩
    all_goals rw [a0, a1]

end Cert.Proof.Route

end
-- ==== Proof.lean ====
/- The claims together, for the dispatch kernel and for the router: each program's frame, the kernels' ideal readings, and
   the equality of each kernel's results with its reference's. The dispatch kernel's run is Proof/Launch.lean and its
   reference's values are Proof/Reference.lean; the router's claims are Proof/RouterClaims.lean. -/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.Pre_experts
public import proofs.«01_k».proof.Proof.Gen.ReferenceIdeal
public import proofs.«01_k».proof.Proof.Gen.ReferenceIdeal.Run
public import proofs.«01_k».proof.Proof.Gen.Pre_finite
public import proofs.«01_k».proof.Proof.Gen.Router
public import proofs.«01_k».proof.Proof.Gen.Router.Frame
public import proofs.«01_k».proof.Proof.Gen.RouterIdeal
public import proofs.«01_k».proof.Proof.Gen.RouterIdeal.Frame
public import proofs.«01_k».proof.Proof.Gen.RouterIdeal.Value
public import proofs.«01_k».proof.Proof.Gen.RouterReferenceIdeal
public import proofs.«01_k».proof.Proof.Gen.RouterReferenceIdeal.Run
public import proofs.«01_k».proof.Proof.Gen.RouterReferenceIdeal.Read
public import proofs.«01_k».proof.Proof.Frames
public import proofs.«01_k».proof.Proof.Reference
public import proofs.«01_k».proof.Proof.RouterClaims
public import Idealize.ShloMosaic.Adequacy
public import Idealize.ShloMosaic.Init

@[expose] public section

noncomputable section

namespace Cert.Proof

open Idealize.ShloMosaic Idealize.SL.Sem Cert.Proof.Priority

local instance : Cert.Pre_experts.Facts := Cert.Pre_experts.Gen.facts
local instance : Cert.KernelIdeal.Facts := Cert.KernelIdeal.Gen.facts
local instance : Cert.ReferenceIdeal.Facts := Cert.ReferenceIdeal.Gen.facts

/-- From equal arguments both programs end with the indices, priorities and masked weights the kernel counts. -/
theorem algebraic : Cert.algebraic_KernelIdeal_ReferenceIdeal := fun m ρ m' ρ' hp ha => by
  have hI : InRange (F := Ideal) m := fun d => experts_lt (F := Ideal) _ _ _ _ _ (hp d)
  refine ⟨fun c => out1 m c, fun c => out2 m c, ?_, ?_⟩
  · exact (θ_run (Cert.KernelIdeal.defs (F := Ideal)) _ _).mono (fun _ h c => h.1 c) (run_main (F := Ideal) m ρ hI)
  · refine (θ_run (Cert.ReferenceIdeal.defs (F := Ideal)) _ _).mono (fun r h c => ?_) (Cert.ReferenceIdeal.Value.run (F := Ideal) m' ρ')
    obtain ⟨h1, h2, h3⟩ := h c
    obtain ⟨a0, a1, a2, a3, a4⟩ := ha c
    refine ⟨h1.trans ?_, h2.trans ?_, h3⟩
    · rw [a0, a1]
      exact refOut1_eq _ _ (hI c).1 (hI c).2
    · rw [a0, a1, a2, a3, a4]
      exact refOut2_eq _ _ _ _ _ (hI c).1 (hI c).2

theorem claim : Cert.Claim :=
  ⟨Cert.Kernel.Gen.facts, Cert.KernelIdeal.Gen.facts, Cert.ReferenceIdeal.Gen.facts, Cert.Router.Gen.facts,
    Cert.RouterIdeal.Gen.facts, Cert.RouterReferenceIdeal.Gen.facts, Cert.Pre_experts.Gen.facts, Cert.Pre_finite.Gen.facts,
    frame_kernel, frame_kernelIdeal, frame_reference, frame_reference_pre,
    Route.frame_router, Route.frame_routerIdeal, Route.frame_routerIdeal_pre, Route.frame_routerReference,
    Route.frame_routerReference_pre, trivial, algebraic, trivial, Route.algebraic⟩

end Cert.Proof

end
